-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "loss_scale" .f32 0x37272F05#32 ((1 / 100352 : ℝ) : EReal)

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_grid : Cert.Pre_uniform_grid.Facts),
    quiescent_Kernel (hKernel := hKernel)
    ∧ quiescent_KernelIdeal (hKernelIdeal := hKernelIdeal)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_uniform_grid.lean ====
abbrev S4x4x196x64 : Shape := ⟨4, ![4, 4, 196, 64]⟩
abbrev S64x256 : Shape := ⟨2, ![64, 256]⟩
abbrev S_ : Shape := ⟨0, ![]⟩
abbrev S1x256 : Shape := ⟨2, ![1, 256]⟩

class Facts : Prop where
  bcast_S_S4x4x196x64 : S_.BroadcastsInDim S4x4x196x64 (![] : Fin 0 → Fin S4x4x196x64.rank)
  slices_S64x256_S1x256_0_0 : S64x256.Slices ![0, 0] S1x256
  bcast_S1x256_S64x256_0_1 : S1x256.BroadcastsInDim S64x256 (![0, 1] : Fin 2 → Fin S64x256.rank)
  bcast_S_S64x256 : S_.BroadcastsInDim S64x256 (![] : Fin 0 → Fin S64x256.rank)

variable [Facts]

def fn {F : FTy → Type} [FloatOps F] (main_arg0 : FVec F S4x4x196x64 .f32) (main_arg1 : FVec F S64x256 .f32) : IVec S4x4x196x64 1 × IVec S64x256 1 × IVec S64x256 1 :=
  let main_v0 : IVec S64x256 32 := iotaInDim S64x256 32 1
  let main_v1 : FVec F S64x256 .f32 := sitofp .f32 main_v0
  let main_cst : FVec F S_ .f32 := constant S_ .f32 0x7F800000#32
  let main_v2 : FVec F S4x4x196x64 .f32 := broadcastInDim S4x4x196x64 ![] bcast_S_S4x4x196x64 main_cst
  let main_v3 : IVec S4x4x196x64 1 := cmpf .olt main_arg0 main_v2
  let main_v4 : FVec F S1x256 .f32 := (extractStridedSlice S1x256 ![0, 0] · slices_S64x256_S1x256_0_0) main_arg1
  let main_v5 : FVec F S64x256 .f32 := broadcastInDim S64x256 ![0, 1] bcast_S1x256_S64x256_0_1 main_v4
  let main_v6 : IVec S64x256 1 := cmpf .oeq main_arg1 main_v5
  let main_cst_0 : FVec F S_ .f32 := constant S_ .f32 0x42FF0000#32
  let main_v7 : FVec F S64x256 .f32 := broadcastInDim S64x256 ![] bcast_S_S64x256 main_cst_0
  let main_v8 : FVec F S64x256 .f32 := mulf main_arg1 main_v7
  let main_cst_1 : FVec F S_ .f32 := constant S_ .f32 0x42FF0000#32
  let main_v9 : FVec F S64x256 .f32 := broadcastInDim S64x256 ![] bcast_S_S64x256 main_cst_1
  let main_v10 : FVec F S64x256 .f32 := addf main_v8 main_v9
  let main_v11 : FVec F S64x256 .f32 := subf main_v10 main_v1
  let main_v12 : FVec F S64x256 .f32 := Host.absf main_v11
  let main_cst_2 : FVec F S_ .f32 := constant S_ .f32 0x3F000000#32
  let main_v13 : FVec F S64x256 .f32 := broadcastInDim S64x256 ![] bcast_S_S64x256 main_cst_2
  let main_v14 : IVec S64x256 1 := cmpf .olt main_v12 main_v13
  (main_v3, main_v6, main_v14)
-- ==== Kernel.lean ====
abbrev S4x4x196x64 : Shape := ⟨4, ![4, 4, 196, 64]⟩
abbrev S64x256 : Shape := ⟨2, ![64, 256]⟩
abbrev S4x4x64x196 : Shape := ⟨4, ![4, 4, 64, 196]⟩
abbrev S32x1x16 : Shape := ⟨3, ![32, 1, 16]⟩
abbrev S256 : Shape := ⟨1, ![256]⟩
abbrev S32x196 : Shape := ⟨2, ![32, 196]⟩
abbrev S1x16 : Shape := ⟨2, ![1, 16]⟩
abbrev S_ : Shape := ⟨0, ![]⟩
abbrev S1x1x32x196 : Shape := ⟨4, ![1, 1, 32, 196]⟩
abbrev S1x256 : Shape := ⟨2, ![1, 256]⟩
abbrev S16 : Shape := ⟨1, ![16]⟩
abbrev S1x1x16 : Shape := ⟨3, ![1, 1, 16]⟩
abbrev S1x1 : Shape := ⟨2, ![1, 1]⟩
abbrev S1x32x1x16 : Shape := ⟨4, ![1, 32, 1, 16]⟩
abbrev S1 : Shape := ⟨1, ![1]⟩
abbrev S1x1x1x1 : Shape := ⟨4, ![1, 1, 1, 1]⟩

abbrev nBuf : Table → Nat
  | .hbm => 10
  | .local .tc .vmem => 1
  | .local .tc .smem => 1
  | .local .scVector .vmem => 5
  | _ => 0

abbrev bufTy : (tb : Table) → Fin (nBuf tb) → BufTy
  | .hbm, ⟨0, _⟩ => ⟨S4x4x196x64, .f32⟩
  | .hbm, ⟨1, _⟩ => ⟨S64x256, .f32⟩
  | .hbm, ⟨2, _⟩ => ⟨S4x4x64x196, .f32⟩
  | .hbm, ⟨3, _⟩ => ⟨S4x4x64x196, .f32⟩
  | .hbm, ⟨4, _⟩ => ⟨S4x4x64x196, .i32⟩
  | .hbm, ⟨5, _⟩ => ⟨S32x1x16, .f32⟩
  | .hbm, ⟨6, _⟩ => ⟨S1x1, .f32⟩
  | .hbm, ⟨7, _⟩ => ⟨S_, .f32⟩
  | .hbm, ⟨8, _⟩ => ⟨S4x4x196x64, .f32⟩
  | .hbm, ⟨9, _⟩ => ⟨S4x4x196x64, .i32⟩
  | .local .tc .vmem, ⟨0, _⟩ => ⟨S32x1x16, .f32⟩
  | .local .tc .smem, ⟨0, _⟩ => ⟨S1x1, .f32⟩
  | .local .scVector .vmem, ⟨0, _⟩ => ⟨S256, .f32⟩
  | .local .scVector .vmem, ⟨1, _⟩ => ⟨S32x196, .f32⟩
  | .local .scVector .vmem, ⟨2, _⟩ => ⟨S32x196, .f32⟩
  | .local .scVector .vmem, ⟨3, _⟩ => ⟨S32x196, .i32⟩
  | .local .scVector .vmem, ⟨4, _⟩ => ⟨S1x16, .f32⟩
  | _, _ => ⟨S4x4x196x64, .f32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev main_v1_2_scv : Ref sig .scVector := ⟨.hbm, 5, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.shrsi v1 c3_i32
  let c1_i32 : BitVec 32 := 1#32
  let v3 : BitVec 32 := Scalar.shrsi v1 c1_i32
  let c3_i32_0 : BitVec 32 := 3#32
  let v4 : BitVec 32 := Scalar.andi v3 c3_i32_0
  let c1_i32_1 : BitVec 32 := 1#32
  let v5 : BitVec 32 := Scalar.andi v1 c1_i32_1
  let c32_i32 : BitVec 32 := 32#32
  let v6 : BitVec 32 := Scalar.muli v5 c32_i32
  let c0_i32_7_r0 : BitVec 32 := 0#32
  ![v2.toNat, v4.toNat, v6.toNat, 0]
@[reducible] def k0_t1_loop : Scf.Loop 32 :=
  let c0_i32_2 : BitVec 32 := 0#32
  let c32_i32_3 : BitVec 32 := 32#32
  let v11 : BitVec 32 := Scalar.addi c0_i32_2 c32_i32_3
  let c1_i32_4 : BitVec 32 := 1#32
  ⟨c0_i32_2, v11, c1_i32_4⟩
def k0_off2 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v18 : Index := Scalar.indexCast arg12
  let c0_7 : Index := 0#32
  ![v18.toNat, 0]

def k0_chk1 (v28 : IVec S16 32) : Prop :=
  (∀ a x, ((![v28] : Fin 1 → IVec S16 32) a x).toNat < S256.size a)
theorem k0_idx1_inb : ∀ (v28 : IVec S16 32) (k0_hw1 : k0_chk1 v28), ∀ a x, ((![v28] : Fin 1 → IVec S16 32) a x).toNat < S256.size a := fun v28 k0_hw1 => k0_hw1

def k0_chk2 (v30 : IVec S16 32) : Prop :=
  (∀ a x, ((![v30] : Fin 1 → IVec S16 32) a x).toNat < S256.size a)
theorem k0_idx2_inb : ∀ (v30 : IVec S16 32) (k0_hw2 : k0_chk2 v30), ∀ a x, ((![v30] : Fin 1 → IVec S16 32) a x).toNat < S256.size a := fun v30 k0_hw2 => k0_hw2
def k0_off3 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v43 : Index := Scalar.indexCast arg12
  let c0_12 : Index := 0#32
  ![v43.toNat, 0]
def k0_off4 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v49 : Index := Scalar.indexCast arg12
  let c16 : Index := 16#32
  ![v49.toNat, 16]

def k0_chk3 (v59 : IVec S16 32) : Prop :=
  (∀ a x, ((![v59] : Fin 1 → IVec S16 32) a x).toNat < S256.size a)
theorem k0_idx3_inb : ∀ (v59 : IVec S16 32) (k0_hw3 : k0_chk3 v59), ∀ a x, ((![v59] : Fin 1 → IVec S16 32) a x).toNat < S256.size a := fun v59 k0_hw3 => k0_hw3

def k0_chk4 (v61 : IVec S16 32) : Prop :=
  (∀ a x, ((![v61] : Fin 1 → IVec S16 32) a x).toNat < S256.size a)
theorem k0_idx4_inb : ∀ (v61 : IVec S16 32) (k0_hw4 : k0_chk4 v61), ∀ a x, ((![v61] : Fin 1 → IVec S16 32) a x).toNat < S256.size a := fun v61 k0_hw4 => k0_hw4
def k0_off5 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v74 : Index := Scalar.indexCast arg12
  let c16_19 : Index := 16#32
  ![v74.toNat, 16]
def k0_off6 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v80 : Index := Scalar.indexCast arg12
  let c32 : Index := 32#32
  ![v80.toNat, 32]

def k0_chk5 (v90 : IVec S16 32) : Prop :=
  (∀ a x, ((![v90] : Fin 1 → IVec S16 32) a x).toNat < S256.size a)
theorem k0_idx5_inb : ∀ (v90 : IVec S16 32) (k0_hw5 : k0_chk5 v90), ∀ a x, ((![v90] : Fin 1 → IVec S16 32) a x).toNat < S256.size a := fun v90 k0_hw5 => k0_hw5

def k0_chk6 (v92 : IVec S16 32) : Prop :=
  (∀ a x, ((![v92] : Fin 1 → IVec S16 32) a x).toNat < S256.size a)
theorem k0_idx6_inb : ∀ (v92 : IVec S16 32) (k0_hw6 : k0_chk6 v92), ∀ a x, ((![v92] : Fin 1 → IVec S16 32) a x).toNat < S256.size a := fun v92 k0_hw6 => k0_hw6
def k0_off7 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v105 : Index := Scalar.indexCast arg12
  let c32_26 : Index := 32#32
  ![v105.toNat, 32]
def k0_off8 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v111 : Index := Scalar.indexCast arg12
  let c48 : Index := 48#32
  ![v111.toNat, 48]

def k0_chk7 (v121 : IVec S16 32) : Prop :=
  (∀ a x, ((![v121] : Fin 1 → IVec S16 32) a x).toNat < S256.size a)
theorem k0_idx7_inb : ∀ (v121 : IVec S16 32) (k0_hw7 : k0_chk7 v121), ∀ a x, ((![v121] : Fin 1 → IVec S16 32) a x).toNat < S256.size a := fun v121 k0_hw7 => k0_hw7

def k0_chk8 (v123 : IVec S16 32) : Prop :=
  (∀ a x, ((![v123] : Fin 1 → IVec S16 32) a x).toNat < S256.size a)
theorem k0_idx8_inb : ∀ (v123 : IVec S16 32) (k0_hw8 : k0_chk8 v123), ∀ a x, ((![v123] : Fin 1 → IVec S16 32) a x).toNat < S256.size a := fun v123 k0_hw8 => k0_hw8
def k0_off9 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v136 : Index := Scalar.indexCast arg12
  let c48_33 : Index := 48#32
  ![v136.toNat, 48]
def k0_off10 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v142 : Index := Scalar.indexCast arg12
  let c64 : Index := 64#32
  ![v142.toNat, 64]

def k0_chk9 (v152 : IVec S16 32) : Prop :=
  (∀ a x, ((![v152] : Fin 1 → IVec S16 32) a x).toNat < S256.size a)
theorem k0_idx9_inb : ∀ (v152 : IVec S16 32) (k0_hw9 : k0_chk9 v152), ∀ a x, ((![v152] : Fin 1 → IVec S16 32) a x).toNat < S256.size a := fun v152 k0_hw9 => k0_hw9

def k0_chk10 (v154 : IVec S16 32) : Prop :=
  (∀ a x, ((![v154] : Fin 1 → IVec S16 32) a x).toNat < S256.size a)
theorem k0_idx10_inb : ∀ (v154 : IVec S16 32) (k0_hw10 : k0_chk10 v154), ∀ a x, ((![v154] : Fin 1 → IVec S16 32) a x).toNat < S256.size a := fun v154 k0_hw10 => k0_hw10
def k0_off11 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v167 : Index := Scalar.indexCast arg12
  let c64_40 : Index := 64#32
  ![v167.toNat, 64]
def k0_off12 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v173 : Index := Scalar.indexCast arg12
  let c80 : Index := 80#32
  ![v173.toNat, 80]

def k0_chk11 (v183 : IVec S16 32) : Prop :=
  (∀ a x, ((![v183] : Fin 1 → IVec S16 32) a x).toNat < S256.size a)
theorem k0_idx11_inb : ∀ (v183 : IVec S16 32) (k0_hw11 : k0_chk11 v183), ∀ a x, ((![v183] : Fin 1 → IVec S16 32) a x).toNat < S256.size a := fun v183 k0_hw11 => k0_hw11

def k0_chk12 (v185 : IVec S16 32) : Prop :=
  (∀ a x, ((![v185] : Fin 1 → IVec S16 32) a x).toNat < S256.size a)
theorem k0_idx12_inb : ∀ (v185 : IVec S16 32) (k0_hw12 : k0_chk12 v185), ∀ a x, ((![v185] : Fin 1 → IVec S16 32) a x).toNat < S256.size a := fun v185 k0_hw12 => k0_hw12
def k0_off13 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v198 : Index := Scalar.indexCast arg12
  let c80_47 : Index := 80#32
  ![v198.toNat, 80]
def k0_off14 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v204 : Index := Scalar.indexCast arg12
  let c96 : Index := 96#32
  ![v204.toNat, 96]

def k0_chk13 (v214 : IVec S16 32) : Prop :=
  (∀ a x, ((![v214] : Fin 1 → IVec S16 32) a x).toNat < S256.size a)
theorem k0_idx13_inb : ∀ (v214 : IVec S16 32) (k0_hw13 : k0_chk13 v214), ∀ a x, ((![v214] : Fin 1 → IVec S16 32) a x).toNat < S256.size a := fun v214 k0_hw13 => k0_hw13

def k0_chk14 (v216 : IVec S16 32) : Prop :=
  (∀ a x, ((![v216] : Fin 1 → IVec S16 32) a x).toNat < S256.size a)
theorem k0_idx14_inb : ∀ (v216 : IVec S16 32) (k0_hw14 : k0_chk14 v216), ∀ a x, ((![v216] : Fin 1 → IVec S16 32) a x).toNat < S256.size a := fun v216 k0_hw14 => k0_hw14
def k0_off15 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v229 : Index := Scalar.indexCast arg12
  let c96_54 : Index := 96#32
  ![v229.toNat, 96]
def k0_off16 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v235 : Index := Scalar.indexCast arg12
  let c112 : Index := 112#32
  ![v235.toNat, 112]

def k0_chk15 (v245 : IVec S16 32) : Prop :=
  (∀ a x, ((![v245] : Fin 1 → IVec S16 32) a x).toNat < S256.size a)
theorem k0_idx15_inb : ∀ (v245 : IVec S16 32) (k0_hw15 : k0_chk15 v245), ∀ a x, ((![v245] : Fin 1 → IVec S16 32) a x).toNat < S256.size a := fun v245 k0_hw15 => k0_hw15

def k0_chk16 (v247 : IVec S16 32) : Prop :=
  (∀ a x, ((![v247] : Fin 1 → IVec S16 32) a x).toNat < S256.size a)
theorem k0_idx16_inb : ∀ (v247 : IVec S16 32) (k0_hw16 : k0_chk16 v247), ∀ a x, ((![v247] : Fin 1 → IVec S16 32) a x).toNat < S256.size a := fun v247 k0_hw16 => k0_hw16
def k0_off17 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v260 : Index := Scalar.indexCast arg12
  let c112_61 : Index := 112#32
  ![v260.toNat, 112]
def k0_off18 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v266 : Index := Scalar.indexCast arg12
  let c128 : Index := 128#32
  ![v266.toNat, 128]

def k0_chk17 (v276 : IVec S16 32) : Prop :=
  (∀ a x, ((![v276] : Fin 1 → IVec S16 32) a x).toNat < S256.size a)
theorem k0_idx17_inb : ∀ (v276 : IVec S16 32) (k0_hw17 : k0_chk17 v276), ∀ a x, ((![v276] : Fin 1 → IVec S16 32) a x).toNat < S256.size a := fun v276 k0_hw17 => k0_hw17

def k0_chk18 (v278 : IVec S16 32) : Prop :=
  (∀ a x, ((![v278] : Fin 1 → IVec S16 32) a x).toNat < S256.size a)
theorem k0_idx18_inb : ∀ (v278 : IVec S16 32) (k0_hw18 : k0_chk18 v278), ∀ a x, ((![v278] : Fin 1 → IVec S16 32) a x).toNat < S256.size a := fun v278 k0_hw18 => k0_hw18
def k0_off19 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v291 : Index := Scalar.indexCast arg12
  let c128_68 : Index := 128#32
  ![v291.toNat, 128]
def k0_off20 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v297 : Index := Scalar.indexCast arg12
  let c144 : Index := 144#32
  ![v297.toNat, 144]

def k0_chk19 (v307 : IVec S16 32) : Prop :=
  (∀ a x, ((![v307] : Fin 1 → IVec S16 32) a x).toNat < S256.size a)
theorem k0_idx19_inb : ∀ (v307 : IVec S16 32) (k0_hw19 : k0_chk19 v307), ∀ a x, ((![v307] : Fin 1 → IVec S16 32) a x).toNat < S256.size a := fun v307 k0_hw19 => k0_hw19

def k0_chk20 (v309 : IVec S16 32) : Prop :=
  (∀ a x, ((![v309] : Fin 1 → IVec S16 32) a x).toNat < S256.size a)
theorem k0_idx20_inb : ∀ (v309 : IVec S16 32) (k0_hw20 : k0_chk20 v309), ∀ a x, ((![v309] : Fin 1 → IVec S16 32) a x).toNat < S256.size a := fun v309 k0_hw20 => k0_hw20
def k0_off21 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v322 : Index := Scalar.indexCast arg12
  let c144_75 : Index := 144#32
  ![v322.toNat, 144]
def k0_off22 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v328 : Index := Scalar.indexCast arg12
  let c160 : Index := 160#32
  ![v328.toNat, 160]

def k0_chk21 (v338 : IVec S16 32) : Prop :=
  (∀ a x, ((![v338] : Fin 1 → IVec S16 32) a x).toNat < S256.size a)
theorem k0_idx21_inb : ∀ (v338 : IVec S16 32) (k0_hw21 : k0_chk21 v338), ∀ a x, ((![v338] : Fin 1 → IVec S16 32) a x).toNat < S256.size a := fun v338 k0_hw21 => k0_hw21

def k0_chk22 (v340 : IVec S16 32) : Prop :=
  (∀ a x, ((![v340] : Fin 1 → IVec S16 32) a x).toNat < S256.size a)
theorem k0_idx22_inb : ∀ (v340 : IVec S16 32) (k0_hw22 : k0_chk22 v340), ∀ a x, ((![v340] : Fin 1 → IVec S16 32) a x).toNat < S256.size a := fun v340 k0_hw22 => k0_hw22
def k0_off23 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v353 : Index := Scalar.indexCast arg12
  let c160_82 : Index := 160#32
  ![v353.toNat, 160]
def k0_off24 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v359 : Index := Scalar.indexCast arg12
  let c176 : Index := 176#32
  ![v359.toNat, 176]

def k0_chk23 (v369 : IVec S16 32) : Prop :=
  (∀ a x, ((![v369] : Fin 1 → IVec S16 32) a x).toNat < S256.size a)
theorem k0_idx23_inb : ∀ (v369 : IVec S16 32) (k0_hw23 : k0_chk23 v369), ∀ a x, ((![v369] : Fin 1 → IVec S16 32) a x).toNat < S256.size a := fun v369 k0_hw23 => k0_hw23

def k0_chk24 (v371 : IVec S16 32) : Prop :=
  (∀ a x, ((![v371] : Fin 1 → IVec S16 32) a x).toNat < S256.size a)
theorem k0_idx24_inb : ∀ (v371 : IVec S16 32) (k0_hw24 : k0_chk24 v371), ∀ a x, ((![v371] : Fin 1 → IVec S16 32) a x).toNat < S256.size a := fun v371 k0_hw24 => k0_hw24
def k0_off25 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v384 : Index := Scalar.indexCast arg12
  let c176_89 : Index := 176#32
  ![v384.toNat, 176]
def k0_off26 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v390 : Index := Scalar.indexCast arg12
  let c180 : Index := 180#32
  ![v390.toNat, 180]

def k0_chk25 (v400 : IVec S16 32) : Prop :=
  (∀ a x, ((![v400] : Fin 1 → IVec S16 32) a x).toNat < S256.size a)
theorem k0_idx25_inb : ∀ (v400 : IVec S16 32) (k0_hw25 : k0_chk25 v400), ∀ a x, ((![v400] : Fin 1 → IVec S16 32) a x).toNat < S256.size a := fun v400 k0_hw25 => k0_hw25

def k0_chk26 (v402 : IVec S16 32) : Prop :=
  (∀ a x, ((![v402] : Fin 1 → IVec S16 32) a x).toNat < S256.size a)
theorem k0_idx26_inb : ∀ (v402 : IVec S16 32) (k0_hw26 : k0_chk26 v402), ∀ a x, ((![v402] : Fin 1 → IVec S16 32) a x).toNat < S256.size a := fun v402 k0_hw26 => k0_hw26
def k0_off27 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let v415 : Index := Scalar.indexCast arg12
  let c180_96 : Index := 180#32
  ![v415.toNat, 180]
def k0_off28 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r4 : BitVec 32 := 0#32
  let c0_i32_8_r4 : BitVec 32 := 0#32
  ![v1.toNat, 0, 0]
abbrev grid1 : Pipeline.Grid := .none

abbrev stage1_0 : Fin 1 → Memref sig .tc .vmem S32x1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "loss_scale" => some ((1 / 100352 : ℝ) : EReal)
  | _ => none
-- ==== ReferenceIdeal.lean ====
abbrev S4x4x196x64 : Shape := ⟨4, ![4, 4, 196, 64]⟩
abbrev S64x256 : Shape := ⟨2, ![64, 256]⟩
abbrev S3136x64 : Shape := ⟨2, ![3136, 64]⟩
abbrev S3136x64x1 : Shape := ⟨3, ![3136, 64, 1]⟩
abbrev S1x64x256 : Shape := ⟨3, ![1, 64, 256]⟩
abbrev S3136x64x256 : Shape := ⟨3, ![3136, 64, 256]⟩
abbrev S_ : Shape := ⟨0, ![]⟩
abbrev S64x3136 : Shape := ⟨2, ![64, 3136]⟩
abbrev S64x3136x1 : Shape := ⟨3, ![64, 3136, 1]⟩
abbrev S1 : Shape := ⟨1, ![1]⟩
abbrev S1x1x1 : Shape := ⟨3, ![1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x4x196x64, .f32⟩
  | .hbm, ⟨1, _⟩ => ⟨S64x256, .f32⟩
  | .hbm, ⟨2, _⟩ => ⟨S3136x64, .f32⟩
  | .hbm, ⟨3, _⟩ => ⟨S3136x64x1, .f32⟩
  | .hbm, ⟨4, _⟩ => ⟨S1x64x256, .f32⟩
  | .hbm, ⟨5, _⟩ => ⟨S3136x64x256, .f32⟩
  | .hbm, ⟨6, _⟩ => ⟨S3136x64x256, .f32⟩
  | .hbm, ⟨7, _⟩ => ⟨S3136x64x256, .f32⟩
  | .hbm, ⟨8, _⟩ => ⟨S3136x64x256, .f32⟩
  | .hbm, ⟨9, _⟩ => ⟨S3136x64x256, .i32⟩
  | .hbm, ⟨10, _⟩ => ⟨S_, .f32⟩
  | .hbm, ⟨11, _⟩ => ⟨S_, .i32⟩
  | .hbm, ⟨12, _⟩ => ⟨S3136x64, .f32⟩
  | .hbm, ⟨13, _⟩ => ⟨S3136x64, .i32⟩
  | .hbm, ⟨14, _⟩ => ⟨S64x3136, .i32⟩
  | .hbm, ⟨15, _⟩ => ⟨S_, .i32⟩
  | .hbm, ⟨16, _⟩ => ⟨S64x3136, .i32⟩
  | .hbm, ⟨17, _⟩ => ⟨S64x3136, .i1⟩
  | .hbm, ⟨18, _⟩ => ⟨S_, .i32⟩
  | .hbm, ⟨19, _⟩ => ⟨S64x3136, .i32⟩
  | .hbm, ⟨20, _⟩ => ⟨S64x3136, .i32⟩
  | .hbm, ⟨21, _⟩ => ⟨S64x3136, .i32⟩
  | .hbm, ⟨22, _⟩ => ⟨S64x3136x1, .i32⟩
  | .hbm, ⟨23, _⟩ => ⟨S1, .i32⟩
  | .hbm, ⟨24, _⟩ => ⟨S_, .i32⟩
  | .hbm, ⟨25, _⟩ => ⟨S64x3136x1, .i32⟩
  | .hbm, ⟨26, _⟩ => ⟨S64x3136x1, .i1⟩
  | .hbm, ⟨27, _⟩ => ⟨S1x1x1, .i32⟩
  | .hbm, ⟨28, _⟩ => ⟨S64x3136x1, .i32⟩
  | .hbm, ⟨29, _⟩ => ⟨S64x3136x1, .i1⟩
  | .hbm, ⟨30, _⟩ => ⟨S64x3136x1, .i1⟩
  | .hbm, ⟨31, _⟩ => ⟨S_, .i1⟩
  | .hbm, ⟨32, _⟩ => ⟨S64x3136, .i1⟩
  | .hbm, ⟨33, _⟩ => ⟨S64x3136, .f32⟩
  | .hbm, ⟨34, _⟩ => ⟨S_, .f32⟩
  | .hbm, ⟨35, _⟩ => ⟨S64x3136, .f32⟩
  | .hbm, ⟨36, _⟩ => ⟨S64x3136, .f32⟩
  | .hbm, ⟨37, _⟩ => ⟨S3136x64, .f32⟩
  | .hbm, ⟨38, _⟩ => ⟨S3136x64, .f32⟩
  | .hbm, ⟨39, _⟩ => ⟨S3136x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S3136x64, .f32⟩
  | .hbm, ⟨45, _⟩ => ⟨S3136x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4x4x196x64, .f32⟩
  | .hbm, ⟨54, _⟩ => ⟨S4x4x196x64, .i32⟩
  | .hbm, ⟨55, _⟩ => ⟨S4x4x196x64, .f32⟩
  | .hbm, ⟨56, _⟩ => ⟨S4x4x196x64, .f32⟩
  | _, _ => ⟨S4x4x196x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v7 : Ref sig .tc := ⟨.hbm, 13, rfl⟩
abbrev main_v8 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩

abbrev nD : Nat := 1
abbrev τ : Topo := Topo.v7x

variable {F : FTy → Type} [FloatOps F]
-- ==== Proof.Quant.lean ====
/-
  What the kernel does to ONE number. A tile holds one row `b` of 256 bins and quantises every element `z` of its
  block by itself: it guesses the bin below `z` from the grid's spacing, reads that bin and the next one, and keeps the
  nearer. The definitions here are those steps on one number, in the order the kernel takes them, for any reading of
  the floats; the other modules say that the kernel's vectors hold exactly these, lane by lane.
-/
module

public import proofs.«01_k».proof.Defs
public import proofs.«01_k».proof.Proof.Gen.KernelIdeal
public import proofs.«01_k».proof.Proof.Gen.KernelIdeal.Skeleton

@[expose] public section

noncomputable section

namespace Cert.Proof.Fsq

open Cert.KernelIdeal Cert.KernelIdeal.Gen
open Idealize.ShloMosaic

variable {F : FTy → Type} [FloatOps F] [Named F]

/-- The guess: `z · 127.5 + 127.5`, truncated to a whole number and clipped to `0 … 254`. -/
def guess (z : F .f32) : BitVec 32 :=
  IntOp.minsi 254#32 (IntOp.maxsi 0#32 (FloatOps.fptosi 32
    (FloatOps.addf (FloatOps.mulf z (Scalar.ofBits .f32 0x42FF0000#32)) (Scalar.ofBits .f32 0x42FF0000#32))))

/-- The guess's right neighbour. -/
def next (z : F .f32) : BitVec 32 := IntOp.addi (guess z) 1#32

/-- The bin a word names, the word read modulo the number of bins. -/
def bin (b : Vec F S256 .f32) (w : BitVec 32) : F .f32 := b fun a => match a with
  | 0 => (⟨w.toNat % 256, Nat.mod_lt _ (by decide)⟩ : Fin 256)
  | ⟨n + 1, h⟩ => absurd h (by simp)

/-- The distance from `z` to the guessed bin, and to the next one. -/
def distLo (b : Vec F S256 .f32) (z : F .f32) : F .f32 := FloatOps.absf (FloatOps.subf z (bin b (guess z)))
def distHi (b : Vec F S256 .f32) (z : F .f32) : F .f32 := FloatOps.absf (FloatOps.subf z (bin b (next z)))

/-- Whether the next bin is the nearer one: strictly, so a tie keeps the lower bin. -/
def nearHi (b : Vec F S256 .f32) (z : F .f32) : BitVec 1 := FloatOps.cmpf .olt (distHi b z) (distLo b z)

/-- The chosen bin's number. -/
def qIdx (b : Vec F S256 .f32) (z : F .f32) : BitVec 32 := Scalar.select (nearHi b z) (next z) (guess z)

/-- The quantised value, written the straight-through way: `z + (bin − z)`. -/
def qVal (b : Vec F S256 .f32) (z : F .f32) : F .f32 :=
  FloatOps.addf z (FloatOps.subf (Scalar.select (nearHi b z) (bin b (next z)) (bin b (guess z))) z)

/-- The squared distance to the chosen bin. -/
def qErr (b : Vec F S256 .f32) (z : F .f32) : F .f32 :=
  FloatOps.mulf (FloatOps.minimumf (distLo b z) (distHi b z)) (FloatOps.minimumf (distLo b z) (distHi b z))

/-! ## The words are in range -/

theorem guess_le (z : F .f32) : (guess z).toNat ≤ 254 := by
  unfold guess
  generalize (FloatOps.fptosi 32 (FloatOps.addf (FloatOps.mulf z (Scalar.ofBits .f32 0x42FF0000#32))
    (Scalar.ofBits .f32 0x42FF0000#32)) : BitVec 32) = w
  unfold IntOp.minsi IntOp.maxsi
  have h1 : (if w.slt 0#32 then 0#32 else w).toNat < 2 ^ 31 := by
    split_ifs with h
    · decide
    · rw [BitVec.slt_iff_toInt_lt] at h
      have := BitVec.toInt_eq_toNat_cond w
      simp only [BitVec.toInt_zero] at h
      split_ifs at this <;> omega
  generalize (if w.slt 0#32 then 0#32 else w) = u at h1 ⊢
  split_ifs with h
  · decide
  · rw [BitVec.slt_iff_toInt_lt] at h
    have h2 := BitVec.toInt_eq_toNat_cond u
    have h3 : (254#32 : BitVec 32).toInt = 254 := by decide
    split_ifs at h2 <;> omega

theorem next_toNat (z : F .f32) : (next z).toNat = (guess z).toNat + 1 := by
  have := guess_le z
  unfold next IntOp.addi
  rw [BitVec.toNat_add]
  have : (1#32 : BitVec 32).toNat = 1 := rfl
  omega

/-! ## Sixteen numbers at a time -/

/-- The guesses of sixteen numbers, and their right neighbours, as the kernel's vector operations compute them. -/
def guessV (z : FVec F S16 .f32) : IVec S16 32 :=
  minsi (broadcast S16 254#32) (maxsi (broadcast S16 0#32) (fptosi 32
    (addf (mulf z (broadcast S16 (Scalar.ofBits .f32 0x42FF0000#32))) (broadcast S16 (Scalar.ofBits .f32 0x42FF0000#32)))))
def nextV (k : IVec S16 32) : IVec S16 32 := addi k (broadcast S16 1#32)

/-- Which lanes take the upper bin, from the two gathered vectors. -/
def nearV (z lo hi : FVec F S16 .f32) : IVec S16 1 := cmpf .olt (absf (subf z hi)) (absf (subf z lo))

/-- The sixteen quantised values, bin numbers and squared distances, from the two gathered vectors. -/
def valV (z lo hi : FVec F S16 .f32) : FVec F S16 .f32 := addf z (subf (select (nearV z lo hi) hi lo) z)
def idxV (z : FVec F S16 .f32) (k k1 : IVec S16 32) (lo hi : FVec F S16 .f32) : IVec S16 32 := select (nearV z lo hi) k1 k
def errV (z lo hi : FVec F S16 .f32) : FVec F S16 .f32 :=
  mulf (minimumf (absf (subf z lo)) (absf (subf z hi))) (minimumf (absf (subf z lo)) (absf (subf z hi)))

theorem guessV_apply (z : FVec F S16 .f32) (x : S16.Idx) : guessV z x = guess (z x) := rfl
theorem nextV_apply (z : FVec F S16 .f32) (x : S16.Idx) : nextV (guessV z) x = next (z x) := rfl

/-- The kernel's check on the guesses holds, whatever the numbers are; and on their neighbours. -/
theorem chk_guess (z : FVec F S16 .f32) : k0_chk1 (guessV z) := fun a x => by
  obtain rfl : a = 0 := Subsingleton.elim a 0
  exact lt_of_le_of_lt (guess_le (z x)) (by decide)
theorem chk_next (z : FVec F S16 .f32) : k0_chk1 (nextV (guessV z)) := fun a x => by
  obtain rfl : a = 0 := Subsingleton.elim a 0
  have := guess_le (z x)
  have h : (next (z x)).toNat < 256 := by rw [next_toNat]; omega
  exact h

/-- An indexed load of the bins at words in range reads the bins the words name. -/
theorem loadIdx_apply (b : Vec F S256 .f32) (w : IVec S16 32) (h : ∀ a x, ((![w] : Fin 1 → IVec S16 32) a x).toNat < S256.size a) (x : S16.Idx) :
    loadIdx b ![w] h x = bin b (w x) := by
  unfold bin loadIdx
  congr 1
  funext a
  obtain rfl : a = 0 := Subsingleton.elim a 0
  exact Fin.ext (Nat.mod_eq_of_lt (h 0 x)).symm

section
variable (b : Vec F S256 .f32) (z : FVec F S16 .f32) (lo hi : FVec F S16 .f32)
  (hlo : ∀ x, lo x = bin b (guess (z x))) (hhi : ∀ x, hi x = bin b (next (z x)))
include hlo hhi

theorem valV_apply (x : S16.Idx) : valV z lo hi x = qVal b (z x) := by
  show FloatOps.addf (z x) (FloatOps.subf (Scalar.select (FloatOps.cmpf .olt (FloatOps.absf (FloatOps.subf (z x) (hi x))) (FloatOps.absf (FloatOps.subf (z x) (lo x)))) (hi x) (lo x)) (z x)) = _
  rw [hlo, hhi]; rfl
theorem idxV_apply (x : S16.Idx) : idxV z (guessV z) (nextV (guessV z)) lo hi x = qIdx b (z x) := by
  show Scalar.select (FloatOps.cmpf .olt (FloatOps.absf (FloatOps.subf (z x) (hi x))) (FloatOps.absf (FloatOps.subf (z x) (lo x)))) (next (z x)) (guess (z x)) = _
  rw [hlo, hhi]; rfl
theorem errV_apply (x : S16.Idx) : errV z lo hi x = qErr b (z x) := by
  show FloatOps.mulf (FloatOps.minimumf (FloatOps.absf (FloatOps.subf (z x) (lo x))) (FloatOps.absf (FloatOps.subf (z x) (hi x)))) (FloatOps.minimumf (FloatOps.absf (FloatOps.subf (z x) (lo x))) (FloatOps.absf (FloatOps.subf (z x) (hi x)))) = _
  rw [hlo, hhi]; rfl
end

end Cert.Proof.Fsq
-- ==== Proof.Chunk.lean ====
/-
  The tile's loop body as thirteen runs of ONE block of operations: sixteen elements of a row are loaded, their bins
  gathered, and the quantised values and the bin numbers stored in the same place of two other buffers; the squared
  distances come back, and are added to one of four running sums. The printed trip IS that sequence (`trip_eq`).
-/
module

public import proofs.«01_k».proof.Proof.Quant
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Fsq

open Cert.KernelIdeal Cert.KernelIdeal.Gen
open Idealize.ShloMosaic Idealize.SL.Sem

variable {F : FTy → Type} [FloatOps F] [Named F]

/-- The lanes of the last block that the block before it has not counted already: twelve and up. -/
def tailKeep : IVec S16 1 := cmpi .sge (iota .scVector S16 32 [0] iota_S16_d0_w32_scVector) (broadcast S16 12#32)
/-- The last block's squared distances, the lanes already counted at zero. -/
def tailV (e : FVec F S16 .f32) : FVec F S16 .f32 := select tailKeep e (broadcast S16 (Scalar.ofBits .f32 0x00000000#32))

/-- One block of sixteen elements, at offsets `o`; the squared distances come back. -/
def chunk (L : grid0.Coords) (arg7 : Memref sig .scVector .vmem S256 .f32) (arg8 arg9 : Memref sig .scVector .vmem S32x196 .f32)
    (arg10 : Memref sig .scVector .vmem S32x196 .i32)
    (o : Fin 2 → Nat) (h : ∀ a, o a + S1x16.size a ≤ S32x196.size a) :
    Prog (TpuEff nD τ sig (Elt F) Λ₀ (.scVector ((L 0).castLE hcore0) ((L 1).castLE hsub0))) (FVec F S16 .f32) := do
  let ld : Vec F S1x16 .f32 ← Prog.lift (.load arg8 (Rect.unit (s := S32x196) o S1x16.size h).toLoadRect (View.loadsAt_vmem h_S1x16))
  have hk : k0_chk1 (guessV (shapeCast S16 ld shapeCasts_S1x16_S16)) := (← Prog.lift (TpuEff.assume (k0_chk1 (guessV (shapeCast S16 ld shapeCasts_S1x16_S16))) (k0_chk1.dec (guessV (shapeCast S16 ld shapeCasts_S1x16_S16))))).down
  have hk1 : k0_chk1 (nextV (guessV (shapeCast S16 ld shapeCasts_S1x16_S16))) := (← Prog.lift (TpuEff.assume (k0_chk1 (nextV (guessV (shapeCast S16 ld shapeCasts_S1x16_S16)))) (k0_chk1.dec (nextV (guessV (shapeCast S16 ld shapeCasts_S1x16_S16)))))).down
  let lo : Vec F S16 .f32 ← SparseCore.vectorLoadIdx arg7 ![guessV (shapeCast S16 ld shapeCasts_S1x16_S16)] (k0_idx1_inb _ hk) (View.loads_vmem h_S256)
  let hi : Vec F S16 .f32 ← SparseCore.vectorLoadIdx arg7 ![nextV (guessV (shapeCast S16 ld shapeCasts_S1x16_S16))] (k0_idx1_inb _ hk1) (View.loads_vmem h_S256)
  let _u : Vec F S1x16 .f32 ← Prog.lift (.load arg9 (Rect.unit (s := S32x196) o S1x16.size h).toLoadRect (View.loadsAt_vmem h_S1x16))
  Prog.lift (.store arg9 (Rect.unit (s := S32x196) o S1x16.size h)
    (shapeCast S1x16 (valV (shapeCast S16 ld shapeCasts_S1x16_S16) lo hi) shapeCasts_S16_S1x16) Finset.univ (View.stores_vmem_bits_univ h_S1x16 rfl) (.inl rfl))
  let _w : Vec F S1x16 .i32 ← Prog.lift (.load arg10 (Rect.unit (s := S32x196) o S1x16.size h).toLoadRect (View.loadsAt_vmem h_S1x16))
  Prog.lift (.store arg10 (Rect.unit (s := S32x196) o S1x16.size h)
    (shapeCast S1x16 (idxV (shapeCast S16 ld shapeCasts_S1x16_S16) (guessV (shapeCast S16 ld shapeCasts_S1x16_S16)) (nextV (guessV (shapeCast S16 ld shapeCasts_S1x16_S16))) lo hi) shapeCasts_S16_S1x16) Finset.univ (View.stores_vmem_bits_univ h_S1x16 rfl) (.inl rfl))
  pure (errV (shapeCast S16 ld shapeCasts_S1x16_S16) lo hi)

/-- One trip of the loop: the row's thirteen blocks, the squared distances of block `c` added to sum `c mod 4`. -/
def trip (L : grid0.Coords) (arg7 : Memref sig .scVector .vmem S256 .f32) (arg8 arg9 : Memref sig .scVector .vmem S32x196 .f32)
    (arg10 : Memref sig .scVector .vmem S32x196 .i32) (t : Fin k0_t1_loop.trips)
    (a : FVec F S16 .f32 × FVec F S16 .f32 × FVec F S16 .f32 × FVec F S16 .f32) :
    Prog (TpuEff nD τ sig (Elt F) Λ₀ (.scVector ((L 0).castLE hcore0) ((L 1).castLE hsub0)))
      (FVec F S16 .f32 × FVec F S16 .f32 × FVec F S16 .f32 × FVec F S16 .f32) := do
  let e0 ← chunk L arg7 arg8 arg9 arg10 (k0_off2 t) (k0_off2_inb t)
  let e1 ← chunk L arg7 arg8 arg9 arg10 (k0_off4 t) (k0_off4_inb t)
  let e2 ← chunk L arg7 arg8 arg9 arg10 (k0_off6 t) (k0_off6_inb t)
  let e3 ← chunk L arg7 arg8 arg9 arg10 (k0_off8 t) (k0_off8_inb t)
  let e4 ← chunk L arg7 arg8 arg9 arg10 (k0_off10 t) (k0_off10_inb t)
  let e5 ← chunk L arg7 arg8 arg9 arg10 (k0_off12 t) (k0_off12_inb t)
  let e6 ← chunk L arg7 arg8 arg9 arg10 (k0_off14 t) (k0_off14_inb t)
  let e7 ← chunk L arg7 arg8 arg9 arg10 (k0_off16 t) (k0_off16_inb t)
  let e8 ← chunk L arg7 arg8 arg9 arg10 (k0_off18 t) (k0_off18_inb t)
  let e9 ← chunk L arg7 arg8 arg9 arg10 (k0_off20 t) (k0_off20_inb t)
  let e10 ← chunk L arg7 arg8 arg9 arg10 (k0_off22 t) (k0_off22_inb t)
  let e11 ← chunk L arg7 arg8 arg9 arg10 (k0_off24 t) (k0_off24_inb t)
  let e12 ← chunk L arg7 arg8 arg9 arg10 (k0_off26 t) (k0_off26_inb t)
  pure (addf (addf (addf (addf a.1 e0) e4) e8) (tailV e12), addf (addf (addf a.2.1 e1) e5) e9,
    addf (addf (addf a.2.2.1 e2) e6) e10, addf (addf (addf a.2.2.2 e3) e7) e11)

set_option maxRecDepth 65536 in
set_option maxHeartbeats 4000000 in
/-- The printed trip is `trip`: both are the same operations in the same order. -/
theorem trip_eq (L : grid0.Coords) (arg2 : Memref sig .scVector .hbm S4x4x64x196 .f32) (harg2 : arg2.IsWhole)
    (arg3 : Memref sig .scVector .hbm S64x256 .f32) (harg3 : arg3.IsWhole) (arg4 : Memref sig .scVector .hbm S4x4x64x196 .f32) (harg4 : arg4.IsWhole)
    (arg5 : Memref sig .scVector .hbm S4x4x64x196 .i32) (harg5 : arg5.IsWhole) (arg6 : Memref sig .scVector .hbm S32x1x16 .f32) (harg6 : arg6.IsWhole)
    (arg7 : Memref sig .scVector .vmem S256 .f32) (harg7 : arg7.IsWhole) (arg8 : Memref sig .scVector .vmem S32x196 .f32) (harg8 : arg8.IsWhole)
    (arg9 : Memref sig .scVector .vmem S32x196 .f32) (harg9 : arg9.IsWhole) (arg10 : Memref sig .scVector .vmem S32x196 .i32) (harg10 : arg10.IsWhole)
    (arg11 : Memref sig .scVector .vmem S1x16 .f32) (harg11 : arg11.IsWhole) (r0 r1 r2 r3 r4 : DmaSems sig S_)
    (t : Fin k0_t1_loop.trips) (a : FVec F S16 .f32 × FVec F S16 .f32 × FVec F S16 .f32 × FVec F S16 .f32) :
    k0_t1_body (F := F) L arg2 harg2 arg3 harg3 arg4 harg4 arg5 harg5 arg6 harg6 arg7 harg7 arg8 harg8 arg9 harg9 arg10 harg10 arg11 harg11 r0 r1 r2 r3 r4 t a
      = trip L arg7 arg8 arg9 arg10 t a := by
  obtain ⟨a0, a1, a2, a3⟩ := a
  rfl

end Cert.Proof.Fsq
-- ==== Proof.Setup.lean ====
/-
  The kernel's launch set-up: the program as the launch theorem sees it, the resource algebra, and the
  buffers' names.
-/
module

public import proofs.«01_k».proof.Proof.Chunk
public import proofs.«01_k».proof.Proof.Gen.KernelIdeal.Launch

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

/-! ## The resource algebra: the handshakes' rounds, the pipeline's rounds, the transfers' counters -/

abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ (MT nD τ sig (HIx 1) (Elt F) ℕ UU ℕ)) := by
  unfold EP; infer_instance

end Cert.Proof.Fsq
-- ==== Proof.ChunkRun.lean ====
/-
  What one block of sixteen elements does to the tile's buffers: the two results' buffers get, in the block's place, the
  quantised values and bin numbers of the block's elements; nothing else changes; the squared distances come back.
-/
module

public import proofs.«01_k».proof.Proof.Setup
public import Idealize.ShloMosaic.Lib.Writes
public import Idealize.ShloMosaic.Lib.Pipeline.Value

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "bV" => (Memref.whole Cert.KernelIdeal.cc0_scratch0 : Memref Cert.KernelIdeal.sig Kind.scVector Space.vmem Cert.KernelIdeal.S256 EltTy.f32)
local notation "zV" => (Memref.whole Cert.KernelIdeal.cc0_scratch1 : Memref Cert.KernelIdeal.sig Kind.scVector Space.vmem Cert.KernelIdeal.S32x196 EltTy.f32)
local notation "qV" => (Memref.whole Cert.KernelIdeal.cc0_scratch2 : Memref Cert.KernelIdeal.sig Kind.scVector Space.vmem Cert.KernelIdeal.S32x196 EltTy.f32)
local notation "iV" => (Memref.whole Cert.KernelIdeal.cc0_scratch3 : Memref Cert.KernelIdeal.sig Kind.scVector Space.vmem Cert.KernelIdeal.S32x196 EltTy.i32)

/-- A block of 32 rows of 196, sixteen places of one row replaced. -/
def put {α : Type} (r c : ℕ) (G f : S32x196.Idx → α) : S32x196.Idx → α :=
  fun i => if (i 0).val = r ∧ c ≤ (i 1).val ∧ (i 1).val < c + 16 then G i else f i

abbrev cV (L : grid0.Coords) : Fin τ.nSC := (L 0).castLE hcore0
abbrev jV (L : grid0.Coords) : Fin τ.nSub := (L 1).castLE hsub0

variable (d : Dev nD) (L : grid0.Coords)
variable (b : Vec F S256 .f32) (z : Vec F S32x196 .f32)

/-- The block's squared distances, as a vector. -/
def errAt (o : Fin 2 → Nat) (h : ∀ a, o a + S1x16.size a ≤ S32x196.size a) : FVec F S16 .f32 :=
  fun x => qErr b (shapeCast S16 (fun y : S1x16.Idx => z ((Rect.unit (s := S32x196) o S1x16.size h).emb y)) shapeCasts_S1x16_S16 x)

/-- A write of one row of sixteen through a view of the block, read back: the row's places replaced, the rest kept. -/
theorem read_write_row {sp : Space} {e : EltTy} (v : View sig .scVector sp S32x196 e) (Val : EltTy → Type) (o : Fin 2 → Nat)
    (h : ∀ a, o a + S1x16.size a ≤ S32x196.size a) (f : v.ty.Contents Val) (w : S1x16.Idx → Val e) (G : S32x196.Idx → Val e)
    (hw : ∀ y : S1x16.Idx, w y = G ((Rect.unit (s := S32x196) o S1x16.size h).emb y)) :
    v.read Val ((v.slice (Rect.unit (s := S32x196) o S1x16.size h)).write Val f w Finset.univ) = put (o 0) (o 1) G (v.read Val f) := by
  funext i
  unfold put
  split_ifs with hi
  · obtain ⟨h0, h1, h2⟩ := hi
    have hmem : i ∈ (Rect.unit (s := S32x196) o S1x16.size h).set := by
      refine (LoadRect.mem_set _).mpr fun a => ?_
      match a with
      | 0 => exact ⟨0, by show 0 < 1; omega, by simpa using h0⟩
      | 1 => exact ⟨(i 1).val - o 1, by show _ < 16; omega, by show _ = o 1 + 1 * ((i 1).val - o 1); omega⟩
    obtain ⟨y, rfl⟩ : ∃ y, (Rect.unit (s := S32x196) o S1x16.size h).emb y = i := LoadRect.exists_idx_of_mem _ hmem
    rw [View.read_slice_write_emb _ _ _ (Finset.mem_univ y), hw]
  · apply View.read_slice_write_of_not_mem
    rw [Rect.map_emb_univ]
    intro hm
    obtain ⟨j0, hj0, e0⟩ := (LoadRect.mem_set _).mp hm 0
    obtain ⟨j1, hj1, e1⟩ := (LoadRect.mem_set _).mp hm 1
    apply hi
    have hj0' : j0 < 1 := hj0
    have hj1' : j1 < 16 := hj1
    have e0' : (i 0).val = o 0 + 1 * j0 := e0
    have e1' : (i 1).val = o 1 + 1 * j1 := e1
    omega

section
variable (o : Fin 2 → Nat) (h : ∀ a, o a + S1x16.size a ≤ S32x196.size a)
  (lo hi : FVec F S16 .f32)
  (hlo : lo = fun x => bin b (guess (shapeCast S16 (View.readAt (Elt F) (zV).view (Rect.unit (s := S32x196) o S1x16.size h).toLoadRect z) shapeCasts_S1x16_S16 x)))
  (hhi : hi = fun x => bin b (next (shapeCast S16 (View.readAt (Elt F) (zV).view (Rect.unit (s := S32x196) o S1x16.size h).toLoadRect z) shapeCasts_S1x16_S16 x)))

include hlo hhi in
/-- What a block leaves of the quantised values. -/
theorem val_writes (f : Vec F S32x196 .f32) :
    (qV).view.writes (Elt F) f [⟨Rect.unit (s := S32x196) o S1x16.size h, shapeCast S1x16 (valV (shapeCast S16
      (View.readAt (Elt F) (zV).view (Rect.unit (s := S32x196) o S1x16.size h).toLoadRect z) shapeCasts_S1x16_S16) lo hi) shapeCasts_S16_S1x16⟩]
      = put (o 0) (o 1) (fun i => qVal b (z i)) f := by
  subst hlo hhi
  refine read_write_row (qV).view (Elt F) o h f _ _ fun y => ?_
  show qVal b (shapeCast S1x16 (shapeCast S16 (fun y : S1x16.Idx => z ((Rect.unit (s := S32x196) o S1x16.size h).emb y)) shapeCasts_S1x16_S16) shapeCasts_S16_S1x16 y) = _
  rw [shapeCast_shapeCast]

include hlo hhi in
/-- What a block leaves of the bin numbers. -/
theorem idx_writes (g : Vec F S32x196 .i32) :
    (iV).view.writes (Elt F) g [⟨Rect.unit (s := S32x196) o S1x16.size h, shapeCast S1x16 (idxV (shapeCast S16
      (View.readAt (Elt F) (zV).view (Rect.unit (s := S32x196) o S1x16.size h).toLoadRect z) shapeCasts_S1x16_S16)
        (guessV (shapeCast S16 (View.readAt (Elt F) (zV).view (Rect.unit (s := S32x196) o S1x16.size h).toLoadRect z) shapeCasts_S1x16_S16))
        (nextV (guessV (shapeCast S16 (View.readAt (Elt F) (zV).view (Rect.unit (s := S32x196) o S1x16.size h).toLoadRect z) shapeCasts_S1x16_S16)))
        lo hi) shapeCasts_S16_S1x16⟩]
      = put (o 0) (o 1) (fun i => qIdx b (z i)) g := by
  subst hlo hhi
  refine read_write_row (iV).view (Elt F) o h g _ _ fun y => ?_
  show qIdx b (shapeCast S1x16 (shapeCast S16 (fun y : S1x16.Idx => z ((Rect.unit (s := S32x196) o S1x16.size h).emb y)) shapeCasts_S1x16_S16) shapeCasts_S16_S1x16 y) = _
  rw [shapeCast_shapeCast]

include hlo hhi in
/-- What a block gives of squared distances. -/
theorem err_value : errV (shapeCast S16 (View.readAt (Elt F) (zV).view (Rect.unit (s := S32x196) o S1x16.size h).toLoadRect z) shapeCasts_S1x16_S16) lo hi
      = errAt b z o h := by
  subst hlo hhi
  rfl
end

theorem chunk_wp (o : Fin 2 → Nat) (h : ∀ a, o a + S1x16.size a ≤ S32x196.size a)
    (f : Vec F S32x196 .f32) (g : Vec F S32x196 .i32) {α : Type}
    (k : FVec F S16 .f32 → Prog (TpuEff nD τ sig (Elt F) Λ₀ (.scVector (cV L) (jV L))) α) (Q : α → sProp 𝕄) :
    iprop(((bV).view.loc (V d (cV L) (jV L)) ↦{fullShare} b) ∗ ((zV).view.loc (V d (cV L) (jV L)) ↦{fullShare} z)
        ∗ ((qV).view.loc (V d (cV L) (jV L)) ↦{fullShare} f) ∗ ((iV).view.loc (V d (cV L) (jV L)) ↦{fullShare} g)
        ∗ (((bV).view.loc (V d (cV L) (jV L)) ↦{fullShare} b) -∗ ((zV).view.loc (V d (cV L) (jV L)) ↦{fullShare} z)
          -∗ ((qV).view.loc (V d (cV L) (jV L)) ↦{fullShare} put (o 0) (o 1) (fun i => qVal b (z i)) f)
          -∗ ((iV).view.loc (V d (cV L) (jV L)) ↦{fullShare} put (o 0) (o 1) (fun i => qIdx b (z i)) g)
          -∗ wp frame (wpE (defs₀ (F := F)) 𝒱₀ (V d (cV L) (jV L)) none) Set.univ (k (errAt b z o h)) Q))
      ⊢ wp frame (wpE (defs₀ (F := F)) 𝒱₀ (V d (cV L) (jV L)) none) Set.univ (chunk L bV zV qV iV o h >>= k) Q := by
  unfold chunk
  iintro ⟨Hb, Hz, Hq, Hi, Hk⟩
  sl_exec
  rw [wp_assume_of _ _ _ _ (chk_guess _)]
  sl_exec
  rw [wp_assume_of _ _ _ _ (chk_next _)]
  rw [Prog.bind_assoc]
  iapply (SparseCore.wp_vectorLoadIdx 𝒱₀ (V d (cV L) (jV L)) none Set.univ (base := (bV : Memref sig .scVector .vmem S256 .f32)) (S := Finset.univ) (q := fullShare) (Finset.subset_univ _)) $$ Hb
  iintro Hb
  rw [Prog.bind_assoc]
  iapply (SparseCore.wp_vectorLoadIdx 𝒱₀ (V d (cV L) (jV L)) none Set.univ (base := (bV : Memref sig .scVector .vmem S256 .f32)) (S := Finset.univ) (q := fullShare) (Finset.subset_univ _)) $$ Hb
  iintro Hb
  sl_exec
  have hb : View.read (Elt F) ((bV).access (Rect.whole cc0_scratch0.ty.shape)) b = b :=
    funext fun x => congrArg b (Rect.emb_whole_apply _ x)
  have hlo : loadIdx (View.read (Elt F) ((bV).access (Rect.whole cc0_scratch0.ty.shape)) b) ![guessV (shapeCast S16 (View.readAt (Elt F) (zV).view (Rect.unit (s := S32x196) o S1x16.size h).toLoadRect z) shapeCasts_S1x16_S16)] (k0_idx1_inb _ (chk_guess _))
      = fun x => bin b (guess (shapeCast S16 (View.readAt (Elt F) (zV).view (Rect.unit (s := S32x196) o S1x16.size h).toLoadRect z) shapeCasts_S1x16_S16 x)) :=
    funext fun x => by rw [hb]; exact loadIdx_apply b (guessV (shapeCast S16 (View.readAt (Elt F) (zV).view (Rect.unit (s := S32x196) o S1x16.size h).toLoadRect z) shapeCasts_S1x16_S16)) (k0_idx1_inb _ (chk_guess _)) x
  have hhi : loadIdx (View.read (Elt F) ((bV).access (Rect.whole cc0_scratch0.ty.shape)) b) ![nextV (guessV (shapeCast S16 (View.readAt (Elt F) (zV).view (Rect.unit (s := S32x196) o S1x16.size h).toLoadRect z) shapeCasts_S1x16_S16))] (k0_idx1_inb _ (chk_next _))
      = fun x => bin b (next (shapeCast S16 (View.readAt (Elt F) (zV).view (Rect.unit (s := S32x196) o S1x16.size h).toLoadRect z) shapeCasts_S1x16_S16 x)) :=
    funext fun x => by rw [hb]; exact loadIdx_apply b (nextV (guessV (shapeCast S16 (View.readAt (Elt F) (zV).view (Rect.unit (s := S32x196) o S1x16.size h).toLoadRect z) shapeCasts_S1x16_S16))) (k0_idx1_inb _ (chk_next _)) x
  rw [val_writes b z o h _ _ hlo hhi f, idx_writes b z o h _ _ hlo hhi g]
  rw [err_value b z o h _ _ hlo hhi]
  iapply Hk $$ [Hb] [Hz] [Hq] [Hi]
  · iexact Hb
  · iexact Hz
  · iexact Hq
  · iexact Hi

end Cert.Proof.Fsq
-- ==== Proof.TripRun.lean ====
/-
  What one trip of the loop does: row `t` of the two results' buffers is replaced by the quantised values and the bin
  numbers of the row, and the four running sums take the row's squared distances.
-/
module

public import proofs.«01_k».proof.Proof.ChunkRun

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "bV" => (Memref.whole Cert.KernelIdeal.cc0_scratch0 : Memref Cert.KernelIdeal.sig Kind.scVector Space.vmem Cert.KernelIdeal.S256 EltTy.f32)
local notation "zV" => (Memref.whole Cert.KernelIdeal.cc0_scratch1 : Memref Cert.KernelIdeal.sig Kind.scVector Space.vmem Cert.KernelIdeal.S32x196 EltTy.f32)
local notation "qV" => (Memref.whole Cert.KernelIdeal.cc0_scratch2 : Memref Cert.KernelIdeal.sig Kind.scVector Space.vmem Cert.KernelIdeal.S32x196 EltTy.f32)
local notation "iV" => (Memref.whole Cert.KernelIdeal.cc0_scratch3 : Memref Cert.KernelIdeal.sig Kind.scVector Space.vmem Cert.KernelIdeal.S32x196 EltTy.i32)

/-- The four running sums. -/
abbrev Sums (F : FTy → Type) : Type := FVec F S16 .f32 × FVec F S16 .f32 × FVec F S16 .f32 × FVec F S16 .f32

/-- A block of 32 rows of 196, the rows before `n` replaced. -/
def upTo {α : Type} (n : ℕ) (G f : S32x196.Idx → α) : S32x196.Idx → α := fun i => if (i 0).val < n then G i else f i

theorem upTo_zero {α : Type} (G f : S32x196.Idx → α) : upTo 0 G f = f := funext fun i => if_neg (Nat.not_lt_zero _)
theorem upTo_all {α : Type} (G f : S32x196.Idx → α) : upTo 32 G f = G := funext fun i => if_pos (i 0).isLt

/-- … and the first `n` places of row `t` too. -/
def segTo {α : Type} (t n : ℕ) (G f : S32x196.Idx → α) : S32x196.Idx → α :=
  fun i => if (i 0).val < t ∨ ((i 0).val = t ∧ (i 1).val < n) then G i else f i

theorem segTo_zero {α : Type} (t : ℕ) (G f : S32x196.Idx → α) : upTo t G f = segTo t 0 G f := by
  funext i
  unfold upTo segTo
  simp only [Nat.not_lt_zero, and_false, or_false]

theorem segTo_all {α : Type} (t : ℕ) (G f : S32x196.Idx → α) : segTo t 196 G f = upTo (t + 1) G f := by
  funext i
  have hi : (i 1).val < 196 := (i 1).isLt
  unfold upTo segTo
  exact if_congr (by omega) rfl rfl

/-- One block more: it begins no later than the places replaced so far end. -/
theorem put_segTo {α : Type} (o : Fin 2 → ℕ) (t c n : ℕ) (ho : o = ![t, c]) (G f : S32x196.Idx → α) (h1 : c ≤ n) (h2 : n ≤ c + 16) :
    put (o 0) (o 1) G (segTo t n G f) = segTo t (c + 16) G f := by
  subst ho
  funext i
  show (if (i 0).val = t ∧ c ≤ (i 1).val ∧ (i 1).val < c + 16 then G i else if _ then G i else f i) = if _ then G i else f i
  split_ifs <;> first | rfl | omega

/-- The thirteen blocks of a row cover it. -/
theorem put_row {α : Type} (t : Fin k0_t1_loop.trips) (G f : S32x196.Idx → α) :
    put (k0_off26 t 0) (k0_off26 t 1) G (put (k0_off24 t 0) (k0_off24 t 1) G (put (k0_off22 t 0) (k0_off22 t 1) G (put (k0_off20 t 0) (k0_off20 t 1) G
      (put (k0_off18 t 0) (k0_off18 t 1) G (put (k0_off16 t 0) (k0_off16 t 1) G (put (k0_off14 t 0) (k0_off14 t 1) G (put (k0_off12 t 0) (k0_off12 t 1) G
        (put (k0_off10 t 0) (k0_off10 t 1) G (put (k0_off8 t 0) (k0_off8 t 1) G (put (k0_off6 t 0) (k0_off6 t 1) G (put (k0_off4 t 0) (k0_off4 t 1) G
          (put (k0_off2 t 0) (k0_off2 t 1) G (upTo t.val G f)))))))))))))
      = upTo (t.val + 1) G f := by
  rw [segTo_zero, put_segTo _ t.val 0 0 (k0_off2_eq t) G f (by omega) (by omega), put_segTo _ t.val 16 _ (k0_off4_eq t) G f (by omega) (by omega),
    put_segTo _ t.val 32 _ (k0_off6_eq t) G f (by omega) (by omega), put_segTo _ t.val 48 _ (k0_off8_eq t) G f (by omega) (by omega),
    put_segTo _ t.val 64 _ (k0_off10_eq t) G f (by omega) (by omega), put_segTo _ t.val 80 _ (k0_off12_eq t) G f (by omega) (by omega),
    put_segTo _ t.val 96 _ (k0_off14_eq t) G f (by omega) (by omega), put_segTo _ t.val 112 _ (k0_off16_eq t) G f (by omega) (by omega),
    put_segTo _ t.val 128 _ (k0_off18_eq t) G f (by omega) (by omega), put_segTo _ t.val 144 _ (k0_off20_eq t) G f (by omega) (by omega),
    put_segTo _ t.val 160 _ (k0_off22_eq t) G f (by omega) (by omega), put_segTo _ t.val 176 _ (k0_off24_eq t) G f (by omega) (by omega),
    put_segTo _ t.val 180 _ (k0_off26_eq t) G f (by omega) (by omega), segTo_all]

variable (d : Dev nD) (L : grid0.Coords)
variable (b : Vec F S256 .f32) (z : Vec F S32x196 .f32)

/-- The running sums after row `t`. -/
def rowSums (t : Fin k0_t1_loop.trips) (a : Sums F) : Sums F :=
  (addf (addf (addf (addf a.1 (errAt b z (k0_off2 t) (k0_off2_inb t))) (errAt b z (k0_off10 t) (k0_off10_inb t))) (errAt b z (k0_off18 t) (k0_off18_inb t)))
      (tailV (errAt b z (k0_off26 t) (k0_off26_inb t))),
    addf (addf (addf a.2.1 (errAt b z (k0_off4 t) (k0_off4_inb t))) (errAt b z (k0_off12 t) (k0_off12_inb t))) (errAt b z (k0_off20 t) (k0_off20_inb t)),
    addf (addf (addf a.2.2.1 (errAt b z (k0_off6 t) (k0_off6_inb t))) (errAt b z (k0_off14 t) (k0_off14_inb t))) (errAt b z (k0_off22 t) (k0_off22_inb t)),
    addf (addf (addf a.2.2.2 (errAt b z (k0_off8 t) (k0_off8_inb t))) (errAt b z (k0_off16 t) (k0_off16_inb t))) (errAt b z (k0_off24 t) (k0_off24_inb t)))

/-- The running sums before row `n`: all zeros at first. -/
def sumsAt : ℕ → Sums F
  | 0 => (k0_pay127, k0_pay127, k0_pay127, k0_pay127)
  | n + 1 => if h : n < k0_t1_loop.trips then rowSums b z ⟨n, h⟩ (sumsAt n) else sumsAt n

theorem sumsAt_succ (t : Fin k0_t1_loop.trips) : sumsAt b z (t.val + 1) = rowSums b z t (sumsAt b z t.val) := by
  rw [sumsAt, dif_pos t.isLt]

theorem trip_wp (t : Fin k0_t1_loop.trips) (a : Sums F) (f : Vec F S32x196 .f32) (g : Vec F S32x196 .i32) (Q : Sums F → sProp 𝕄) :
    iprop(((bV).view.loc (V d (cV L) (jV L)) ↦{fullShare} b) ∗ ((zV).view.loc (V d (cV L) (jV L)) ↦{fullShare} z)
        ∗ ((qV).view.loc (V d (cV L) (jV L)) ↦{fullShare} upTo t.val (fun i => qVal b (z i)) f)
        ∗ ((iV).view.loc (V d (cV L) (jV L)) ↦{fullShare} upTo t.val (fun i => qIdx b (z i)) g)
        ∗ (((bV).view.loc (V d (cV L) (jV L)) ↦{fullShare} b) -∗ ((zV).view.loc (V d (cV L) (jV L)) ↦{fullShare} z)
          -∗ ((qV).view.loc (V d (cV L) (jV L)) ↦{fullShare} upTo (t.val + 1) (fun i => qVal b (z i)) f)
          -∗ ((iV).view.loc (V d (cV L) (jV L)) ↦{fullShare} upTo (t.val + 1) (fun i => qIdx b (z i)) g)
          -∗ Q (rowSums b z t a)))
      ⊢ wp frame (wpE (defs₀ (F := F)) 𝒱₀ (V d (cV L) (jV L)) none) Set.univ (trip L bV zV qV iV t a) Q := by
  unfold trip rowSums
  iintro ⟨Hb, Hz, Hq, Hi, Hk⟩
  iterate 13
    iapply (chunk_wp d L b z)
    isplitl [Hb]; · iexact Hb
    isplitl [Hz]; · iexact Hz
    isplitl [Hq]; · iexact Hq
    isplitl [Hi]; · iexact Hi
    iintro Hb Hz Hq Hi
  rw [put_row t _ f, put_row t _ g]
  sl_step
  iapply Hk $$ [Hb] [Hz] [Hq] [Hi]
  · iexact Hb
  · iexact Hz
  · iexact Hq
  · iexact Hi

end Cert.Proof.Fsq
-- ==== Proof.Places.lean ====
/-
  The tiles' places in the arrays. Tile `s` of SparseCore `c` works on one block of 32 rows of 196: rows `32c … 32c+31`
  of image `s / 4`, stage `s mod 4`; and on row `2s + c` of the partial sums. Here: those sets of elements, that the 32
  tiles' sets are disjoint and cover the arrays, and what each array holds when every tile has done its work.
-/
module

public import proofs.«01_k».proof.Proof.TripRun
public import Idealize.ShloMosaic.Lib.ShareLeaves

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "aV" => (Memref.whole Cert.KernelIdeal.main_v0_scv : Memref Cert.KernelIdeal.sig Kind.scVector Space.hbm Cert.KernelIdeal.S4x4x64x196 EltTy.f32)
local notation "nV" => (Memref.whole Cert.KernelIdeal.main_arg1_scv : Memref Cert.KernelIdeal.sig Kind.scVector Space.hbm Cert.KernelIdeal.S64x256 EltTy.f32)
local notation "oqV" => (Memref.whole Cert.KernelIdeal.main_v1_0_scv : Memref Cert.KernelIdeal.sig Kind.scVector Space.hbm Cert.KernelIdeal.S4x4x64x196 EltTy.f32)
local notation "oiV" => (Memref.whole Cert.KernelIdeal.main_v1_1_scv : Memref Cert.KernelIdeal.sig Kind.scVector Space.hbm Cert.KernelIdeal.S4x4x64x196 EltTy.i32)
local notation "opV" => (Memref.whole Cert.KernelIdeal.main_v1_2_scv : Memref Cert.KernelIdeal.sig Kind.scVector Space.hbm Cert.KernelIdeal.S32x1x16 EltTy.f32)
local notation "bV" => (Memref.whole Cert.KernelIdeal.cc0_scratch0 : Memref Cert.KernelIdeal.sig Kind.scVector Space.vmem Cert.KernelIdeal.S256 EltTy.f32)
local notation "zV" => (Memref.whole Cert.KernelIdeal.cc0_scratch1 : Memref Cert.KernelIdeal.sig Kind.scVector Space.vmem Cert.KernelIdeal.S32x196 EltTy.f32)
local notation "qV" => (Memref.whole Cert.KernelIdeal.cc0_scratch2 : Memref Cert.KernelIdeal.sig Kind.scVector Space.vmem Cert.KernelIdeal.S32x196 EltTy.f32)
local notation "iV" => (Memref.whole Cert.KernelIdeal.cc0_scratch3 : Memref Cert.KernelIdeal.sig Kind.scVector Space.vmem Cert.KernelIdeal.S32x196 EltTy.i32)
local notation "pV" => (Memref.whole Cert.KernelIdeal.cc0_scratch4 : Memref Cert.KernelIdeal.sig Kind.scVector Space.vmem Cert.KernelIdeal.S1x16 EltTy.f32)

/-! ## The places -/

/-- The tile's place in the grid, from its SparseCore and its number there. -/
def coordsV (c : Fin (grid0.bound 0)) (s : Fin (grid0.bound 1)) : grid0.Coords :=
  fun | 0 => c | 1 => s | ⟨_ + 2, h⟩ => absurd h (Nat.not_lt.2 (Nat.le_add_left _ _))

theorem off1_eq : ∀ L : grid0.Coords, k0_off1 L = ![(L 1).val / 4, (L 1).val % 4, 32 * (L 0).val, 0] := by decide +kernel

abbrev blkR (L : grid0.Coords) : Rect S4x4x64x196 := Rect.unit (s := S4x4x64x196) (k0_off1 L) S1x1x32x196.size (k0_off1_inb L)
abbrev parR (L : grid0.Coords) : Rect S32x1x16 := Rect.unit (s := S32x1x16) (k0_off28 L) S1x1x16.size (k0_off28_inb L)
/-- The elements of the tile's block, and of its row of partial sums. -/
abbrev blkSet (L : grid0.Coords) : Finset S4x4x64x196.Idx := (blkR L).set
abbrev parSet (L : grid0.Coords) : Finset S32x1x16.Idx := (parR L).set

theorem mem_blkSet {L : grid0.Coords} {i : S4x4x64x196.Idx} :
    i ∈ blkSet L ↔ (i 0).val = (L 1).val / 4 ∧ (i 1).val = (L 1).val % 4 ∧ (i 2).val / 32 = (L 0).val := by
  rw [blkSet, blkR, Rect.mem_set_unit, off1_eq]
  have h3 : (i 3).val < 196 := (i 3).isLt
  constructor
  · intro h
    have h0 : (L 1).val / 4 ≤ (i 0).val ∧ (i 0).val < (L 1).val / 4 + 1 := h 0
    have h1 : (L 1).val % 4 ≤ (i 1).val ∧ (i 1).val < (L 1).val % 4 + 1 := h 1
    have h2 : 32 * (L 0).val ≤ (i 2).val ∧ (i 2).val < 32 * (L 0).val + 32 := h 2
    omega
  · rintro ⟨h0, h1, h2⟩ a
    match a with
    | 0 => show (L 1).val / 4 ≤ (i 0).val ∧ (i 0).val < (L 1).val / 4 + 1; omega
    | 1 => show (L 1).val % 4 ≤ (i 1).val ∧ (i 1).val < (L 1).val % 4 + 1; omega
    | 2 => show 32 * (L 0).val ≤ (i 2).val ∧ (i 2).val < 32 * (L 0).val + 32; omega
    | 3 => show 0 ≤ (i 3).val ∧ (i 3).val < 0 + 196; omega

theorem mem_parSet {L : grid0.Coords} {i : S32x1x16.Idx} : i ∈ parSet L ↔ (i 0).val = 2 * (L 1).val + (L 0).val := by
  rw [parSet, parR, Rect.mem_set_unit, k0_off28_eq]
  have h1 : (i 1).val < 1 := (i 1).isLt
  have h2 : (i 2).val < 16 := (i 2).isLt
  constructor
  · intro h
    have h0 : 2 * (L 1).val + (L 0).val ≤ (i 0).val ∧ (i 0).val < 2 * (L 1).val + (L 0).val + 1 := h 0
    omega
  · intro h0 a
    match a with
    | 0 => show 2 * (L 1).val + (L 0).val ≤ (i 0).val ∧ (i 0).val < 2 * (L 1).val + (L 0).val + 1; omega
    | 1 => show 0 ≤ (i 1).val ∧ (i 1).val < 0 + 1; omega
    | 2 => show 0 ≤ (i 2).val ∧ (i 2).val < 0 + 16; omega

/-! ## The places are disjoint and cover the arrays -/

/-- The tile a pair names. -/
abbrev tileOf (p : Fin 2 × Fin 16) : grid0.Coords := coordsV p.1 p.2

theorem blk_disjoint : ∀ p ∈ (Finset.univ : Finset (Fin 2 × Fin 16)), ∀ p' ∈ (Finset.univ : Finset (Fin 2 × Fin 16)), p ≠ p' →
    Disjoint (blkSet (tileOf p)) (blkSet (tileOf p')) := fun p _ p' _ hne => by
  refine Finset.disjoint_left.mpr fun i h h' => hne ?_
  obtain ⟨a0, a1, a2⟩ := mem_blkSet.mp h
  obtain ⟨b0, b1, b2⟩ := mem_blkSet.mp h'
  have e0 : (i 0).val = p.2.val / 4 := a0
  have e1 : (i 1).val = p.2.val % 4 := a1
  have e2 : (i 2).val / 32 = p.1.val := a2
  have f0 : (i 0).val = p'.2.val / 4 := b0
  have f1 : (i 1).val = p'.2.val % 4 := b1
  have f2 : (i 2).val / 32 = p'.1.val := b2
  exact Prod.ext (Fin.ext (by omega)) (Fin.ext (by omega))

theorem blk_cover : (Finset.univ : Finset (Fin 2 × Fin 16)).biUnion (fun p => blkSet (tileOf p)) = Finset.univ := by
  refine Finset.eq_univ_iff_forall.mpr fun i => Finset.mem_biUnion.mpr ?_
  have h0 : (i 0).val < 4 := (i 0).isLt
  have h1 : (i 1).val < 4 := (i 1).isLt
  have h2 : (i 2).val < 64 := (i 2).isLt
  refine ⟨(⟨(i 2).val / 32, by omega⟩, ⟨4 * (i 0).val + (i 1).val, by omega⟩), Finset.mem_univ _, mem_blkSet.mpr ?_⟩
  refine ⟨?_, ?_, rfl⟩
  · show (i 0).val = (4 * (i 0).val + (i 1).val) / 4; omega
  · show (i 1).val = (4 * (i 0).val + (i 1).val) % 4; omega

theorem par_disjoint : ∀ p ∈ (Finset.univ : Finset (Fin 2 × Fin 16)), ∀ p' ∈ (Finset.univ : Finset (Fin 2 × Fin 16)), p ≠ p' →
    Disjoint (parSet (tileOf p)) (parSet (tileOf p')) := fun p _ p' _ hne => by
  refine Finset.disjoint_left.mpr fun i h h' => hne ?_
  have e0 : (i 0).val = 2 * p.2.val + p.1.val := mem_parSet.mp h
  have f0 : (i 0).val = 2 * p'.2.val + p'.1.val := mem_parSet.mp h'
  have := p.1.isLt
  have := p'.1.isLt
  exact Prod.ext (Fin.ext (by omega)) (Fin.ext (by omega))

theorem par_cover : (Finset.univ : Finset (Fin 2 × Fin 16)).biUnion (fun p => parSet (tileOf p)) = Finset.univ := by
  refine Finset.eq_univ_iff_forall.mpr fun i => Finset.mem_biUnion.mpr ?_
  have h0 : (i 0).val < 32 := (i 0).isLt
  refine ⟨(⟨(i 0).val % 2, by omega⟩, ⟨(i 0).val / 2, by omega⟩), Finset.mem_univ _, mem_parSet.mpr ?_⟩
  show (i 0).val = 2 * ((i 0).val / 2) + (i 0).val % 2; omega

/-! ## The arrays, as a tile addresses them -/

abbrev aLoc (d : Dev nD) : Loc nD τ sig := (SparseCore.T d).loc main_v0
abbrev nLoc (d : Dev nD) : Loc nD τ sig := (SparseCore.T d).loc main_arg1
abbrev qLoc (d : Dev nD) : Loc nD τ sig := (SparseCore.T d).loc main_v1_0
abbrev iLoc (d : Dev nD) : Loc nD τ sig := (SparseCore.T d).loc main_v1_1
abbrev pLoc (d : Dev nD) : Loc nD τ sig := (SparseCore.T d).loc main_v1_2

abbrev aBlk (L : grid0.Coords) : Memref sig .scVector .hbm S32x196 .f32 := ((aV).slice (blkR L) (fun _ => rfl)).squeeze S32x196 squeezes_S1x1x32x196_S32x196
abbrev qBlk (L : grid0.Coords) : Memref sig .scVector .hbm S32x196 .f32 := ((oqV).slice (blkR L) (fun _ => rfl)).squeeze S32x196 squeezes_S1x1x32x196_S32x196
abbrev iBlk (L : grid0.Coords) : Memref sig .scVector .hbm S32x196 .i32 := ((oiV).slice (blkR L) (fun _ => rfl)).squeeze S32x196 squeezes_S1x1x32x196_S32x196
abbrev pRow (L : grid0.Coords) : Memref sig .scVector .hbm S1x16 .f32 := ((opV).slice (parR L) (fun _ => rfl)).squeeze S1x16 squeezes_S1x1x16_S1x16
abbrev nRow : Memref sig .scVector .hbm S256 .f32 :=
  ((nV).slice (Rect.unit (s := S64x256) ![0, 0] S1x256.size inb_S64x256_S1x256_0_0) (fun _ => rfl)).squeeze S256 squeezes_S1x256_S256

theorem set_aBlk (L : grid0.Coords) : (aBlk L).view.set = blkSet L := by
  show (((View.whole (main_v0_scv : Ref sig .scVector)).slice (blkR L)).reshape S32x196 squeezes_S1x1x32x196_S32x196.numel_eq).set = _
  rw [View.set_reshape, View.set_slice]; exact Finset.map_refl
theorem set_qBlk (L : grid0.Coords) : (qBlk L).view.set = blkSet L := by
  show (((View.whole (main_v1_0_scv : Ref sig .scVector)).slice (blkR L)).reshape S32x196 squeezes_S1x1x32x196_S32x196.numel_eq).set = _
  rw [View.set_reshape, View.set_slice]; exact Finset.map_refl
theorem set_iBlk (L : grid0.Coords) : (iBlk L).view.set = blkSet L := by
  show (((View.whole (main_v1_1_scv : Ref sig .scVector)).slice (blkR L)).reshape S32x196 squeezes_S1x1x32x196_S32x196.numel_eq).set = _
  rw [View.set_reshape, View.set_slice]; exact Finset.map_refl
theorem set_pRow (L : grid0.Coords) : (pRow L).view.set = parSet L := by
  show (((View.whole (main_v1_2_scv : Ref sig .scVector)).slice (parR L)).reshape S1x16 squeezes_S1x1x16_S1x16.numel_eq).set = _
  rw [View.set_reshape, View.set_slice]; exact Finset.map_refl

/-! ## What the arrays hold in the end -/

section Values
variable (a : Vec F S4x4x64x196 .f32) (n : Vec F S64x256 .f32)

/-- The first row of the bins: the one row the kernel reads. -/
def row0 : Vec F S256 .f32 := (nRow).view.read (Elt F) n
/-- The tile's block of the transposed input. -/
def blkOf (L : grid0.Coords) : Vec F S32x196 .f32 := (aBlk L).view.read (Elt F) a

/-- The quantised values and the bin numbers, element by element. -/
def valArr : Vec F S4x4x64x196 .f32 := fun i => qVal (row0 n) (a i)
def idxArr : Vec F S4x4x64x196 .i32 := fun i => qIdx (row0 n) (a i)

/-- The tile's sixteen partial sums: its four running sums added up. -/
def partV (L : grid0.Coords) : FVec F S16 .f32 :=
  addf (addf (sumsAt (row0 n) (blkOf a L) 32).1 (sumsAt (row0 n) (blkOf a L) 32).2.1)
    (addf (sumsAt (row0 n) (blkOf a L) 32).2.2.1 (sumsAt (row0 n) (blkOf a L) 32).2.2.2)

/-- The tile whose partial sums row `w` holds. -/
def tileAt (w : Fin 32) : grid0.Coords := coordsV (⟨w.val % 2, by have := w.isLt; show _ < 2; omega⟩) (⟨w.val / 2, by have := w.isLt; show _ < 16; omega⟩)
/-- Lane `x`. -/
def lane (x : Fin 16) : S16.Idx := fun a => match a with
  | 0 => x
  | ⟨k + 1, h⟩ => absurd h (by simp)
/-- All the partial sums. -/
def partArr : Vec F S32x1x16 .f32 := fun i => partV a n (tileAt (i 0)) (lane (i 2))

theorem tileAt_self (L : grid0.Coords) (w : Fin 32) (h : w.val = 2 * (L 1).val + (L 0).val) : tileAt w = L := by
  have h0 : (L 0).val < 2 := (L 0).isLt
  funext k
  match k with
  | 0 => exact Fin.ext (show w.val % 2 = (L 0).val by omega)
  | 1 => exact Fin.ext (show w.val / 2 = (L 1).val by omega)

/-- Lane `x` by sixteen as one row of sixteen, seen from the array of all the rows. -/
theorem lane_cast (L : grid0.Coords) (v : FVec F S16 .f32) (y : S1x16.Idx) :
    shapeCast S1x16 v shapeCasts_S16_S1x16 y = v (lane ((pRow L).view.emb y 2)) := by
  have hy : (y 0).val < 1 := (y 0).isLt
  have e1 : (Shape.reshapeEquiv shapeCasts_S16_S1x16 y 0).val = (y 1).val := by
    have h := Shape.rowMajor_reshapeEquiv shapeCasts_S16_S1x16 y
    have h1 : (S16.rowMajor (Shape.reshapeEquiv shapeCasts_S16_S1x16 y)).val = (Shape.reshapeEquiv shapeCasts_S16_S1x16 y 0).val := Shape.rowMajor_val_one _
    have h2 : (S1x16.rowMajor y).val = (y 0).val * 16 + (y 1).val := Shape.rowMajor_val_two y
    omega
  have e2 : ((pRow L).view.emb y 2).val = (y 1).val := by
    have h := Shape.rowMajor_reshapeEquiv squeezes_S1x1x16_S1x16.numel_eq y
    have h1 : (S1x1x16.rowMajor (Shape.reshapeEquiv squeezes_S1x1x16_S1x16.numel_eq y)).val
        = ((Shape.reshapeEquiv squeezes_S1x1x16_S1x16.numel_eq y 0).val * 1 + (Shape.reshapeEquiv squeezes_S1x1x16_S1x16.numel_eq y 1).val) * 16
          + (Shape.reshapeEquiv squeezes_S1x1x16_S1x16.numel_eq y 2).val := Shape.rowMajor_val_three _
    have h2 : (S1x16.rowMajor y).val = (y 0).val * 16 + (y 1).val := Shape.rowMajor_val_two y
    have g0 : (Shape.reshapeEquiv squeezes_S1x1x16_S1x16.numel_eq y 0).val < 1 := (Shape.reshapeEquiv squeezes_S1x1x16_S1x16.numel_eq y 0).isLt
    have g1 : (Shape.reshapeEquiv squeezes_S1x1x16_S1x16.numel_eq y 1).val < 1 := (Shape.reshapeEquiv squeezes_S1x1x16_S1x16.numel_eq y 1).isLt
    have h3 : ((pRow L).view.emb y 2).val = k0_off28 L 2 + 1 * (Shape.reshapeEquiv squeezes_S1x1x16_S1x16.numel_eq y 2).val := rfl
    have h4 : k0_off28 L 2 = 0 := congrFun (k0_off28_eq L) 2
    omega
  refine congrArg v (funext fun k => ?_)
  match k with
  | 0 => exact Fin.ext (e1.trans e2.symm)

/-- What the two fetches leave in the tile's memory: the bins' first row and the tile's block. -/
theorem fetch_row (fb : Vec F S256 .f32) : (bV).view.write (Elt F) fb ((nRow).view.read (Elt F) n) Finset.univ = row0 n :=
  View.write_whole_univ (cc0_scratch0 : Ref sig .scVector) fb _
theorem fetch_blk (L : grid0.Coords) (fz : Vec F S32x196 .f32) : (zV).view.write (Elt F) fz ((aBlk L).view.read (Elt F) a) Finset.univ = blkOf a L :=
  View.write_whole_univ (cc0_scratch1 : Ref sig .scVector) fz _

omit [FloatOps F] [Named F] in
/-- An element's place in a view is its place in the whole of it. -/
theorem emb_whole {κ : Kind} {sp : Space} {s : Shape} {e : EltTy} (v : View sig κ sp s e) (y : s.Idx) : v.emb y = (v.slice (Rect.whole s)).emb y :=
  congrArg v.emb (Rect.emb_whole_apply s y).symm

/-- The block written into the array of quantised values is the array's there; -/
theorem val_block (L : grid0.Coords) (f : Vec F S4x4x64x196 .f32) :
    ∀ i ∈ blkSet L, (qBlk L).view.writes (Elt F) f [⟨Rect.whole S32x196, fun y => qVal (row0 n) (blkOf a L y)⟩] i = valArr a n i := by
  intro i hi
  rw [← set_qBlk] at hi
  obtain ⟨y, -, rfl⟩ := Finset.mem_map.mp hi
  rw [View.writes_singleton]
  conv_lhs => rw [emb_whole (qBlk L).view y]
  exact (View.write_emb_of_mem _ _ (Finset.mem_univ y)).trans rfl

/-- likewise the bin numbers, -/
theorem idx_block (L : grid0.Coords) (f : Vec F S4x4x64x196 .i32) :
    ∀ i ∈ blkSet L, (iBlk L).view.writes (Elt F) f [⟨Rect.whole S32x196, fun y => qIdx (row0 n) (blkOf a L y)⟩] i = idxArr a n i := by
  intro i hi
  rw [← set_iBlk] at hi
  obtain ⟨y, -, rfl⟩ := Finset.mem_map.mp hi
  rw [View.writes_singleton]
  conv_lhs => rw [emb_whole (iBlk L).view y]
  exact (View.write_emb_of_mem _ _ (Finset.mem_univ y)).trans rfl

/-- and the row of partial sums. -/
theorem par_row (L : grid0.Coords) (f : Vec F S32x1x16 .f32) :
    ∀ i ∈ parSet L, (pRow L).view.writes (Elt F) f [⟨Rect.whole S1x16, shapeCast S1x16 (partV a n L) shapeCasts_S16_S1x16⟩] i = partArr a n i := by
  intro i hi
  have hw := tileAt_self L (i 0) (mem_parSet.mp hi)
  rw [← set_pRow] at hi
  obtain ⟨y, -, rfl⟩ := Finset.mem_map.mp hi
  unfold partArr
  rw [hw, ← lane_cast L (partV a n L) y, View.writes_singleton]
  rw [emb_whole (pRow L).view y]
  exact View.write_emb_of_mem _ _ (Finset.mem_univ y)
end Values

end Cert.Proof.Fsq
-- ==== Proof.TileRun.lean ====
/-
  One tile's task: it fetches its block and the first row of the bins, runs the 32 rows, writes its sixteen sums down,
  and copies the block of values, the block of bin numbers and the sums out. Every copy is waited for at once.
-/
module

public import proofs.«01_k».proof.Proof.Places
public import Idealize.ShloMosaic.Lib.VecWindow

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "aV" => (Memref.whole Cert.KernelIdeal.main_v0_scv : Memref Cert.KernelIdeal.sig Kind.scVector Space.hbm Cert.KernelIdeal.S4x4x64x196 EltTy.f32)
local notation "nV" => (Memref.whole Cert.KernelIdeal.main_arg1_scv : Memref Cert.KernelIdeal.sig Kind.scVector Space.hbm Cert.KernelIdeal.S64x256 EltTy.f32)
local notation "oqV" => (Memref.whole Cert.KernelIdeal.main_v1_0_scv : Memref Cert.KernelIdeal.sig Kind.scVector Space.hbm Cert.KernelIdeal.S4x4x64x196 EltTy.f32)
local notation "oiV" => (Memref.whole Cert.KernelIdeal.main_v1_1_scv : Memref Cert.KernelIdeal.sig Kind.scVector Space.hbm Cert.KernelIdeal.S4x4x64x196 EltTy.i32)
local notation "opV" => (Memref.whole Cert.KernelIdeal.main_v1_2_scv : Memref Cert.KernelIdeal.sig Kind.scVector Space.hbm Cert.KernelIdeal.S32x1x16 EltTy.f32)
local notation "bV" => (Memref.whole Cert.KernelIdeal.cc0_scratch0 : Memref Cert.KernelIdeal.sig Kind.scVector Space.vmem Cert.KernelIdeal.S256 EltTy.f32)
local notation "zV" => (Memref.whole Cert.KernelIdeal.cc0_scratch1 : Memref Cert.KernelIdeal.sig Kind.scVector Space.vmem Cert.KernelIdeal.S32x196 EltTy.f32)
local notation "qV" => (Memref.whole Cert.KernelIdeal.cc0_scratch2 : Memref Cert.KernelIdeal.sig Kind.scVector Space.vmem Cert.KernelIdeal.S32x196 EltTy.f32)
local notation "iV" => (Memref.whole Cert.KernelIdeal.cc0_scratch3 : Memref Cert.KernelIdeal.sig Kind.scVector Space.vmem Cert.KernelIdeal.S32x196 EltTy.i32)
local notation "pV" => (Memref.whole Cert.KernelIdeal.cc0_scratch4 : Memref Cert.KernelIdeal.sig Kind.scVector Space.vmem Cert.KernelIdeal.S1x16 EltTy.f32)

section Tile
variable (d : Dev nD) (L : grid0.Coords)

/-! ## The tile's own semaphores and buffers -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)

theorem cell_ne {thr : Thread nD τ} {s s' : SemLoc sig} (h : s ≠ s') : ((thr, s) : GSem nD τ sig) ≠ (thr, s') :=
  fun e => h (congrArg Prod.snd e)

/-- The five cells of the tile's copies are among its own: they are them, each at zero, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0
          ∗ bigSep ((((((ownCells (V d (cV L) (jV L))).erase (cell0 d (cV L) (jV L))).erase (cell1 d (cV L) (jV L))).erase (cell2 d (cV L) (jV L))).erase
              (cell3 d (cV L) (jV L))).erase (cell4 d (cV L) (jV L))) fun g => semVal g 0) := by
  have own (s : SemLoc sig) (h : s.isScoped .scVector = true) : ((V d (cV L) (jV L), s) : GSem nD τ sig) ∈ ownCells (V d (cV L) (jV L)) :=
    mem_ownCells.mpr ⟨rfl, h⟩
  unfold SparseCore.Cfg.ownSems0
  rw [SparseCore.bigSep_erase' (i := cell0 d (cV L) (jV L)) (own (.dma cc0_scoped0.sem) (by decide)),
    SparseCore.bigSep_erase' (i := cell1 d (cV L) (jV L)) (by
      refine Finset.mem_erase.mpr ⟨cell_ne (by decide), own (.dma cc0_scoped1.sem) (by decide)⟩),
    SparseCore.bigSep_erase' (i := cell2 d (cV L) (jV L)) (by
      refine Finset.mem_erase.mpr ⟨cell_ne (by decide), Finset.mem_erase.mpr ⟨cell_ne (by decide), own (.dma cc0_scoped2.sem) (by decide)⟩⟩),
    SparseCore.bigSep_erase' (i := cell3 d (cV L) (jV L)) (by
      refine Finset.mem_erase.mpr ⟨cell_ne (by decide), Finset.mem_erase.mpr ⟨cell_ne (by decide), Finset.mem_erase.mpr ⟨cell_ne (by decide),
        own (.dma cc0_scoped3.sem) (by decide)⟩⟩⟩),
    SparseCore.bigSep_erase' (i := cell4 d (cV L) (jV L)) (by
      refine Finset.mem_erase.mpr ⟨cell_ne (by decide), Finset.mem_erase.mpr ⟨cell_ne (by decide), Finset.mem_erase.mpr ⟨cell_ne (by decide),
        Finset.mem_erase.mpr ⟨cell_ne (by decide), own (.dma cc0_scoped4.sem) (by decide)⟩⟩⟩⟩)]

abbrev bufOf (b : Ref sig .scVector) : DevRef τ sig := (Proc.scVector (cV L) (jV L)).devRef b

/-- The five scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase (bufOf L cc0_scratch0)).erase (bufOf L cc0_scratch1)).erase (bufOf L cc0_scratch2)).erase
              (bufOf L cc0_scratch3)).erase (bufOf L cc0_scratch4)) fun b => iprop(∃ f, ((d, b) : Loc nD τ sig) ↦{fullShare} f)) := by
  have ne {b b' : Ref sig .scVector} (h : b ≠ b') : bufOf L b ≠ bufOf L b' := fun e => h (Proc.devRef_injective _ e)
  unfold SparseCore.Cfg.ownBufs
  refine (SparseCore.bigSep_erase' (SparseCore.Cfg.mem_ownRefs_of_owner (p := Proc.scVector (cV L) (jV L)) (b := bufOf L cc0_scratch0) rfl)).trans ?_
  rw [SparseCore.bigSep_erase' (i := bufOf L cc0_scratch1) (Finset.mem_erase.mpr ⟨ne (by decide), SparseCore.Cfg.mem_ownRefs_of_owner (p := Proc.scVector (cV L) (jV L)) (b := bufOf L cc0_scratch1) rfl⟩),
    SparseCore.bigSep_erase' (i := bufOf L cc0_scratch2) (Finset.mem_erase.mpr ⟨ne (by decide), Finset.mem_erase.mpr ⟨ne (by decide), SparseCore.Cfg.mem_ownRefs_of_owner (p := Proc.scVector (cV L) (jV L)) (b := bufOf L cc0_scratch2) rfl⟩⟩),
    SparseCore.bigSep_erase' (i := bufOf L cc0_scratch3) (Finset.mem_erase.mpr ⟨ne (by decide), Finset.mem_erase.mpr ⟨ne (by decide),
      Finset.mem_erase.mpr ⟨ne (by decide), SparseCore.Cfg.mem_ownRefs_of_owner (p := Proc.scVector (cV L) (jV L)) (b := bufOf L cc0_scratch3) rfl⟩⟩⟩),
    SparseCore.bigSep_erase' (i := bufOf L cc0_scratch4) (Finset.mem_erase.mpr ⟨ne (by decide), Finset.mem_erase.mpr ⟨ne (by decide),
      Finset.mem_erase.mpr ⟨ne (by decide), Finset.mem_erase.mpr ⟨ne (by decide), SparseCore.Cfg.mem_ownRefs_of_owner (p := Proc.scVector (cV L) (jV L)) (b := bufOf L cc0_scratch4) rfl⟩⟩⟩⟩)]

/-! ## The loop -/

/-- Before row `k`: the bins' row and the block in place, the rows before `k` quantised, the running sums those of the
    rows before `k`. -/
def inv (O : CellTallies nD τ sig (HIx 1)) (W : Waits sig (HIx 1)) (b : Vec F S256 .f32) (z f : Vec F S32x196 .f32) (g : Vec F S32x196 .i32)
    (k : Nat) (acc : Sums F) : sProp 𝕄 :=
  iprop(Transfers.MayWaits (V d (cV L) (jV L)) (none : HIx 1) O
    ∗ ((bV).view.loc (V d (cV L) (jV L)) ↦{fullShare} b)
    ∗ ((zV).view.loc (V d (cV L) (jV L)) ↦{fullShare} z)
    ∗ ((qV).view.loc (V d (cV L) (jV L)) ↦{fullShare} upTo k (fun i => qVal b (z i)) f)
    ∗ ((iV).view.loc (V d (cV L) (jV L)) ↦{fullShare} upTo k (fun i => qIdx b (z i)) g)
    ∗ ⌜acc = sumsAt b z k⌝
    ∗ owes (V d (cV L) (jV L)) O W)

/-! ## The task -/

/-- What the tile is handed: its block of the input, a share of the bins, its blocks of the two results, its row of sums. -/
abbrev tileIn (q : PosShare TreeShare) (a : Vec F S4x4x64x196 .f32) (n : Vec F S64x256 .f32) (f : Vec F S4x4x64x196 .f32)
    (g : Vec F S4x4x64x196 .i32) (p : Vec F S32x1x16 .f32) : sProp 𝕄 :=
  iprop((aLoc d ↦[blkSet L]{fullShare} a) ∗ (nLoc d ↦{q} n) ∗ (qLoc d ↦[blkSet L]{fullShare} f) ∗ (iLoc d ↦[blkSet L]{fullShare} g)
    ∗ (pLoc d ↦[parSet L]{fullShare} p))

/-- The sums' row, just stored whole, is read back as stored. -/
theorem sums_row (fp v : Vec F S1x16 .f32) :
    (pV).view.read (Elt F) ((pV).view.writes (Elt F) fp [⟨Rect.unit (s := S1x16) ![0, 0] S1x16.size inb_S1x16_S1x16_0_0, v⟩]) = v :=
  View.read_writes_full (pV).view fp inb_S1x16_S1x16_0_0 v []

set_option maxHeartbeats 4000000 in
theorem tile_body (hF : (K (F := F)).Facts) (q : PosShare TreeShare) (a : Vec F S4x4x64x196 .f32) (n : Vec F S64x256 .f32)
    (f : Vec F S4x4x64x196 .f32) (g : Vec F S4x4x64x196 .i32) (p : Vec F S32x1x16 .f32)
    (O : CellTallies nD τ sig (HIx 1)) (W : Waits sig (HIx 1)) (hO : ∀ g, O g none = 0) :
    iprop(levAts (K (F := F)).L (K (F := F)).lev ∗ emp ∗ tileIn d L q a n f g p
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fsq_body L aV (Memref.isWhole_whole _) nV (Memref.isWhole_whole _) oqV (Memref.isWhole_whole _) oiV (Memref.isWhole_whole _)
            opV (Memref.isWhole_whole _) bV (Memref.isWhole_whole _) zV (Memref.isWhole_whole _) qV (Memref.isWhole_whole _) iV (Memref.isWhole_whole _)
            pV (Memref.isWhole_whole _) cc0_scoped0 cc0_scoped1 cc0_scoped2 cc0_scoped3 cc0_scoped4)
          fun _ => iprop(tileIn d L q a n (valArr a n) (idxArr a n) (partArr a n)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__fsq_body_eq_skeleton]; unfold cc0__fsq_body_skel
  simp only [k0_part11_eq_skeleton]; unfold k0_part11_skel
  rw [(K (F := F)).scopedBufs_V hF d (cV L) (jV L), SparseCore.Cfg.scopedSems0_V (Val := Elt F) d (cV L) (jV L), ownSems0_V, ownBufs_V]
  iintro ⟨#Hlv, -, ⟨Ha, Hn, Hoq, Hoi, Hop⟩, ⟨⟨%fb, Hb⟩, ⟨%fz, Hz⟩, ⟨%fq, Hq⟩, ⟨%fi, Hi⟩, ⟨%fp, Hp⟩, Hbufs⟩, ⟨Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (show (aLoc d ↦[blkSet L]{fullShare} a : sProp 𝕄) = (aBlk L).view.loc (V d (cV L) (jV L)) ↦[(aBlk L).view.set]{fullShare} a by
    rw [set_aBlk])) $$ Ha
  ihave Hn' := (Entails.of_eq (show (nLoc d ↦{q} n : sProp 𝕄) = (nV).view.loc (V d (cV L) (jV L)) ↦{q} n from rfl)) $$ Hn
  ihave Hoq' := (Entails.of_eq (show (qLoc d ↦[blkSet L]{fullShare} f : sProp 𝕄) = (qBlk L).view.loc (V d (cV L) (jV L)) ↦[(qBlk L).view.set]{fullShare} f by
    rw [set_qBlk])) $$ Hoq
  ihave Hoi' := (Entails.of_eq (show (iLoc d ↦[blkSet L]{fullShare} g : sProp 𝕄) = (iBlk L).view.loc (V d (cV L) (jV L)) ↦[(iBlk L).view.set]{fullShare} g by
    rw [set_iBlk])) $$ Hoi
  ihave Hop' := (Entails.of_eq (show (pLoc d ↦[parSet L]{fullShare} p : sProp 𝕄) = (pRow L).view.loc (V d (cV L) (jV L)) ↦[(pRow L).view.set]{fullShare} p by
    rw [set_pRow])) $$ Hop
  ihave Hb' := (Entails.of_eq (show ((V d (cV L) (jV L)).loc cc0_scratch0 ↦{fullShare} fb : sProp 𝕄) = (bV).view.loc (V d (cV L) (jV L)) ↦{fullShare} fb from rfl)) $$ Hb
  ihave Hz' := (Entails.of_eq (show ((V d (cV L) (jV L)).loc cc0_scratch1 ↦{fullShare} fz : sProp 𝕄) = (zV).view.loc (V d (cV L) (jV L)) ↦{fullShare} fz from rfl)) $$ Hz
  ihave Hq' := (Entails.of_eq (show ((V d (cV L) (jV L)).loc cc0_scratch2 ↦{fullShare} fq : sProp 𝕄) = (qV).view.loc (V d (cV L) (jV L)) ↦{fullShare} fq from rfl)) $$ Hq
  ihave Hi' := (Entails.of_eq (show ((V d (cV L) (jV L)).loc cc0_scratch3 ↦{fullShare} fi : sProp 𝕄) = (iV).view.loc (V d (cV L) (jV L)) ↦{fullShare} fi from rfl)) $$ Hi
  ihave Hp' := (Entails.of_eq (show ((V d (cV L) (jV L)).loc cc0_scratch4 ↦{fullShare} fp : sProp 𝕄) = (pV).view.loc (V d (cV L) (jV L)) ↦{fullShare} fp from rfl)) $$ Hp
  sl_exec
  -- the two fetches: the bins' first row, and the tile's block
  ihave Hb' := (Entails.of_eq (show ((bV).view.loc (V d (cV L) (jV L)) ↦{fullShare} View.write (Elt F) (bV).view fb (tile_body.sl.dma0_1 n) Finset.univ : sProp 𝕄)
      = (bV).view.loc (V d (cV L) (jV L)) ↦{fullShare} row0 n from congrArg (fun f => ((bV).view.loc (V d (cV L) (jV L)) ↦{fullShare} f : sProp 𝕄))
        (fetch_row n fb))) $$ Hb'
  ihave Hz' := (Entails.of_eq (show ((zV).view.loc (V d (cV L) (jV L)) ↦{fullShare} View.write (Elt F) (zV).view fz (tile_body.sl.dma0 L a) Finset.univ : sProp 𝕄)
      = (zV).view.loc (V d (cV L) (jV L)) ↦{fullShare} blkOf a L from congrArg (fun f => ((zV).view.loc (V d (cV L) (jV L)) ↦{fullShare} f : sProp 𝕄))
        (fetch_blk a L fz))) $$ Hz'
  rw [Prog.bind_assoc]
  sl_for (inv d L O (insert (SemLoc.dma cc0_scoped1.sem, (default : HIx 1)) (insert (SemLoc.dma cc0_scoped0.sem, (default : HIx 1)) W)) (row0 n) (blkOf a L) fq fi) $$ [Hmw Hb' Hz' Hq' Hi' HO]
  case region =>
    intro k acc
    unfold inv
    iintro ⟨Hmw, Hb, Hz, Hq, Hi, %hacc, HO⟩
    subst hacc
    rw [show tile_body.sl.prog.body_1 L k (sumsAt (row0 n) (blkOf a L) k.val) = trip L bV zV qV iV k (sumsAt (row0 n) (blkOf a L) k.val) from
      trip_eq L aV (Memref.isWhole_whole _) nV (Memref.isWhole_whole _) oqV (Memref.isWhole_whole _) oiV (Memref.isWhole_whole _)
        opV (Memref.isWhole_whole _) bV (Memref.isWhole_whole _) zV (Memref.isWhole_whole _) qV (Memref.isWhole_whole _) iV (Memref.isWhole_whole _)
        pV (Memref.isWhole_whole _) cc0_scoped0 cc0_scoped1 cc0_scoped2 cc0_scoped3 cc0_scoped4 k _]
    iapply (trip_wp d L (row0 n) (blkOf a L))
    isplitl [Hb]; · iexact Hb
    isplitl [Hz]; · iexact Hz
    isplitl [Hq]; · iexact Hq
    isplitl [Hi]; · iexact Hi
    iintro Hb Hz Hq Hi
    isplitl [Hmw]; · iexact Hmw
    isplitl [Hb]; · iexact Hb
    isplitl [Hz]; · iexact Hz
    isplitl [Hq]; · iexact Hq
    isplitl [Hi]; · iexact Hi
    isplitr
    · ipureintro; exact (sumsAt_succ (row0 n) (blkOf a L) k).symm
    · iexact HO
  · unfold inv
    rw [upTo_zero, upTo_zero]
    isplitl [Hmw]; · iexact Hmw
    isplitl [Hb']; · iexact Hb'
    isplitl [Hz']; · iexact Hz'
    isplitl [Hq']; · iexact Hq'
    isplitl [Hi']; · iexact Hi'
    isplitr
    · ipureintro; rfl
    · iexact HO
  iintro %acc HI
  unfold inv
  icases HI with ⟨Hmw, Hb', Hz', Hq', Hi', %hacc, HO⟩
  subst hacc
  sl_exec
  sl_step
  -- what the copies out wrote
  ihave Hoq := (Entails.of_eq (show ((qBlk L).view.loc (V d (cV L) (jV L)) ↦[(qBlk L).view.set]{fullShare}
      (qBlk L).view.writes (Elt F) f [⟨Rect.whole S32x196, tile_body.sl.dma2 d L a n fq⟩] : sProp 𝕄)
        = qLoc d ↦[blkSet L]{fullShare} valArr a n by
      rw [set_qBlk, show tile_body.sl.dma2 d L a n fq = fun y => qVal (row0 n) (blkOf a L y) from upTo_all _ _]
      exact pointsTo_congr (ℓ := qLoc d) (q := fullShare) (val_block a n L f))) $$ Hoq'
  ihave Hoi := (Entails.of_eq (show ((iBlk L).view.loc (V d (cV L) (jV L)) ↦[(iBlk L).view.set]{fullShare}
      (iBlk L).view.writes (Elt F) g [⟨Rect.whole S32x196, tile_body.sl.dma2_1 d L a n fi⟩] : sProp 𝕄)
        = iLoc d ↦[blkSet L]{fullShare} idxArr a n by
      rw [set_iBlk, show tile_body.sl.dma2_1 d L a n fi = fun y => qIdx (row0 n) (blkOf a L y) from upTo_all _ _]
      exact pointsTo_congr (ℓ := iLoc d) (q := fullShare) (idx_block a n L g))) $$ Hoi'
  ihave Hop := (Entails.of_eq (show ((pRow L).view.loc (V d (cV L) (jV L)) ↦[(pRow L).view.set]{fullShare}
      (pRow L).view.writes (Elt F) p [⟨Rect.whole S1x16, tile_body.sl.dma2_2 d L a n fp⟩] : sProp 𝕄)
        = pLoc d ↦[parSet L]{fullShare} partArr a n by
      rw [set_pRow, show tile_body.sl.dma2_2 d L a n fp = shapeCast S1x16 (partV a n L) shapeCasts_S16_S1x16 from sums_row fp _]
      exact pointsTo_congr (ℓ := pLoc d) (q := fullShare) (par_row a n L p))) $$ Hop'
  isplitl [Ha' Hn' Hoq Hoi Hop]
  · isplitl [Ha']
    · iapply (Entails.of_eq (show ((aBlk L).view.loc (V d (cV L) (jV L)) ↦[(aBlk L).view.set]{fullShare} a : sProp 𝕄) = aLoc d ↦[blkSet L]{fullShare} a by
        rw [set_aBlk]))
      iexact Ha'
    isplitl [Hn']; · iexact Hn'
    isplitl [Hoq]; · iexact Hoq
    isplitl [Hoi]; · iexact Hoi
    iexact Hop
  isplitl [Hb' Hz' Hq' Hi' Hp' Hbufs]
  · isplitl [Hb']; · iexists _; iexact Hb'
    isplitl [Hz']; · iexists _; iexact Hz'
    isplitl [Hq']; · iexists _; iexact Hq'
    isplitl [Hi']; · iexists _; iexact Hi'
    isplitl [Hp']; · iexists _; iexact Hp'
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  iterate 5 rcases Finset.mem_insert.mp hp with hp | hp; · exact .inr (hp ▸ rfl)
  exact .inl hp

end Tile
end Cert.Proof.Fsq
-- ==== Proof.Pieces.lean ====
/-
  The arrays as the tiles hold them: the whole input, bins, results and partial sums are together what the 32 tiles hold.
  And one step of @main on the TensorCore that reads one array and writes another.
-/
module

public import proofs.«01_k».proof.Proof.TileRun
public import Idealize.ShloMosaic.Lib.StableHlo.Run

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Splitting among the tiles -/

/-- The pair's number among the 32 shares. -/
def shareOf (p : Fin 2 × Fin 16) : PosShare TreeShare := ShareLeaves.leaf 5 fullShare (Fin.cast (by norm_num) (finProdFinEquiv p))

theorem share_tiles (d : Dev nD) (n : Vec F S64x256 .f32) :
    (nLoc d ↦{fullShare} n : sProp 𝕄) = bigSep Finset.univ fun p : Fin 2 × Fin 16 => nLoc d ↦{shareOf p} n := by
  exact (ShareLeaves.pointsTo_leaves (ℓ := nLoc d) Finset.univ n 5 fullShare).trans (bigSep_univ_equiv ((finProdFinEquiv (m := 2) (n := 16)).trans (finCongr (by norm_num))) _)

/-- The five arrays whole are the 32 tiles' pieces of them. -/
theorem tiles_eq (d : Dev nD) (a : Vec F S4x4x64x196 .f32) (n : Vec F S64x256 .f32) (f : Vec F S4x4x64x196 .f32) (g : Vec F S4x4x64x196 .i32)
    (p : Vec F S32x1x16 .f32) :
    (iprop((aLoc d ↦{fullShare} a) ∗ (nLoc d ↦{fullShare} n) ∗ (qLoc d ↦{fullShare} f) ∗ (iLoc d ↦{fullShare} g) ∗ (pLoc d ↦{fullShare} p)) : sProp 𝕄)
      = bigSep Finset.univ fun c : Fin 2 => bigSep Finset.univ fun i : Fin 16 => tileIn d (tileOf (c, i)) (shareOf (c, i)) a n f g p := by
  rw [← bigSep_univ_prod (fun x : Fin 2 × Fin 16 => tileIn d (tileOf x) (shareOf x) a n f g p)]
  unfold tileIn
  rw [bigSep_sep', bigSep_sep', bigSep_sep', bigSep_sep', ← share_tiles,
    ← pointsTo_biUnion Finset.univ (ℓ := aLoc d) (fun x => blkSet (tileOf x)) blk_disjoint,
    ← pointsTo_biUnion Finset.univ (ℓ := qLoc d) (fun x => blkSet (tileOf x)) blk_disjoint,
    ← pointsTo_biUnion Finset.univ (ℓ := iLoc d) (fun x => blkSet (tileOf x)) blk_disjoint,
    ← pointsTo_biUnion Finset.univ (ℓ := pLoc d) (fun x => parSet (tileOf x)) par_disjoint, blk_cover, par_cover]

/-! ## A step from one array to another -/

/-- A host operation that reads `x` and writes `y`: `x` keeps its contents, `y` takes the operation's value of them. -/
theorem wp_step {Λ : Labels} {D : Defs nD τ sig (Elt F) Λ} (𝒲 : Variants) (d : Dev nD) (bd : Option 𝒲.V) {x y : Ref sig .tc}
    (m : (ℓ : Loc nD τ sig) → Buf (Elt F) ℓ)
    (op : HloOp τ sig (Elt F)) (hne : (Proc.devRef .tc x : DevRef τ sig) ≠ Proc.devRef .tc y) (hb : op.bufs = {Proc.devRef .tc x, Proc.devRef .tc y})
    (hw : op.writes = {Proc.devRef .tc y}) (hf : op.fresh = ∅) (u : x.ty.Contents (Elt F)) (v w : y.ty.Contents (Elt F))
    (hres : ∀ V : Valuation τ sig (Elt F), V (Proc.devRef .tc x) = u → op.result V (Proc.devRef .tc y) = w) {Q : PUnit → sProp 𝕄} :
    iprop(boundary (SparseCore.T d) ∗ ((SparseCore.T d).loc x ↦{fullShare} u) ∗ ((SparseCore.T d).loc y ↦{fullShare} v)
        ∗ (iprop(boundary (SparseCore.T d) ∗ ((SparseCore.T d).loc x ↦{fullShare} u) ∗ ((SparseCore.T d).loc y ↦{fullShare} w)) -∗ Q ⟨⟩))
      ⊢ wp frame (wpE D 𝒲 (SparseCore.T d) bd) Set.univ (hlo rfl op (fun _ => .ret ⟨⟩)) Q := by
  let V : Valuation τ sig (Elt F) := Function.update (Function.update (fun b => m (d, b)) (Proc.devRef .tc y) v) (Proc.devRef .tc x) u
  have hVx : V (Proc.devRef .tc x) = u := Function.update_self ..
  have hVy : V (Proc.devRef .tc y) = v := (Function.update_of_ne hne.symm ..).trans (Function.update_self ..)
  have two (W : Valuation τ sig (Elt F)) : (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold StableHlo.held
    rw [SparseCore.bigSep_insert' (by rw [Finset.mem_singleton]; exact hne), bigSep_singleton]
  have e0 := two V
  have e1 := two (op.result V)
  rw [hVx, hVy] at e0
  rw [hres V hVx, op.result_of_not_mem V (by rw [hw, Finset.mem_singleton]; exact hne), hVx] at e1
  have step := StableHlo.wp_hlo_within (defs := D) 𝒲 (SparseCore.T d) bd Set.univ (hp := rfl) (op := op) (k := fun _ => .ret ⟨⟩) (hb.subset) (V := V) (Q := Q) hf
  rw [e0, e1] at step
  iintro ⟨Hb, Hx, Hy, Hk⟩
  iapply step $$ [Hb Hx Hy]
  · isplitl [Hb]; · iexact Hb
    isplitl [Hx] <;> iassumption
  iintro H
  rw [wp_ret]
  imodintro
  iapply Hk; iexact H

end Cert.Proof.Fsq

end
-- ==== Proof.LossRegion.lean ====
/-
  The loss kernel on the TensorCore: its body, which sums the tiles' partial sums and scales the sum into the single
  cell of scalar memory, and the step @main takes when it calls it.
-/
module

public import proofs.«01_k».proof.Proof.Places
public import proofs.«01_k».proof.Proof.Gen.KernelIdeal.Points
public import proofs.«01_k».proof.Proof.Gen.KernelIdeal.Skeleton
public import Idealize.ShloMosaic.Lib.Tactic
public import Idealize.ShloMosaic.Lib.VecWindow
public import Idealize.ShloMosaic.Lib.Pipeline.ValueKit.Geometry

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

abbrev sLoc (d : Dev nD) : Loc nD τ sig := (d.tc : Thread nD τ).loc main_v2

/-- What the loss kernel stores: the scaled sum, in the one cell. -/
def lossVec (p : Vec F S32x1x16 .f32) : Vec F S1x1 .f32 := fun _ => k1_pay1 p

/-! ## The body -/

/-- The store into the one cell, over the staged sums, leaves the scaled sum. -/
theorem stored (f0 : Vec F S32x1x16 .f32) (g : Vec F S1x1 .f32) :
    (Memref.whole cc1_stg1_0).view.writes (Elt F) g [⟨Rect.unit (s := S1x1) ![0, 0] S1x1.size inb_S1x1_S1x1_0_0, fun _ => k1_pay1
      (View.readAt (Elt F) (Memref.whole cc1_stg0_0).view (Rect.unit (s := S32x1x16) ![0, 0, 0] S32x1x16.size inb_S32x1x16_S32x1x16_0_0_0).toLoadRect f0)⟩]
      = lossVec f0 := by
  have h := View.read_writes_full (Val := Elt F) (Memref.whole cc1_stg1_0).view g inb_S1x1_S1x1_0_0 (fun _ => k1_pay1
      (View.readAt (Elt F) (Memref.whole cc1_stg0_0).view (Rect.unit (s := S32x1x16) ![0, 0, 0] S32x1x16.size inb_S32x1x16_S32x1x16_0_0_0).toLoadRect f0)) []
  rw [show View.readAt (Elt F) (Memref.whole cc1_stg0_0).view (Rect.unit (s := S32x1x16) ![0, 0, 0] S32x1x16.size inb_S32x1x16_S32x1x16_0_0_0).toLoadRect f0 = f0 from
    View.readAt_full (Val := Elt F) (Memref.whole cc1_stg0_0).view f0 inb_S32x1x16_S32x1x16_0_0_0] at h ⊢
  exact h

/-- From the partial sums staged whole, the body stores the scaled sum in the scalar cell. -/
theorem loss_body (d : Dev nD) (f0 : Buf (Elt F) ((Memref.whole cc1_stg0_0).view.loc (d.tc : Thread nD τ))) (f1) (E : Set ℕ) (Q : PUnit → sProp 𝕄) :
    iprop(((Memref.whole cc1_stg0_0).view.loc (d.tc : Thread nD τ) ↦{fullShare} f0) ∗ ((Memref.whole cc1_stg1_0).view.loc (d.tc : Thread nD τ) ↦{fullShare} f1)
        ∗ (iprop(((Memref.whole cc1_stg0_0).view.loc (d.tc : Thread nD τ) ↦{fullShare} f0) ∗ ((Memref.whole cc1_stg1_0).view.loc (d.tc : Thread nD τ) ↦{fullShare} lossVec f0)) -∗ Q ⟨⟩))
      ⊢ wp frame (wpE (defs₀ (F := F)) 𝒱₀ (d.tc : Thread nD τ) none) E (cc1__loss_body (Memref.whole cc1_stg0_0) (hstage1_0 0) (Memref.whole cc1_stg1_0) (hstage1_1 0)) Q := by
  rw [cc1__loss_body_eq_skeleton]
  unfold cc1__loss_body_skel
  iintro ⟨H0, H1, Hk⟩
  sl_exec!
  sl_step
  iapply Hk
  isplitl [H0]; · iexact H0
  rw [show (Memref.whole cc1_stg1_0).view.writes (Elt F) (Memref.whole cc1_stg1_0).view.junk (loss_body.sl.H1_1 d f0) = lossVec f0 from
    stored f0 _]
  iexact H1

/-! ## The proof data -/

/-- What the TensorCore's recorded waits stay under. -/
abbrev lowPairs (d : Dev nD) : Set (SemLoc sig × HIx 1) := {x | (K (F := F)).lev ((d.tc : Thread nD τ), x.1) x.2 ≤ 8}

/-- Both arrays at their contents on entry; after the one point the partial sums as fetched and the scaled sum. -/
def lossDat (p : Vec F S32x1x16 .f32) (s : Vec F S1x1 .f32) (d : Dev nD) : Dat τ (Elt F) (HIx 1) ℕ UU ℕ cfg1 d where
  A w := match w with | ⟨0, _⟩ => p | ⟨1, _⟩ => s
  after w _ := match w with | ⟨0, _⟩ => p | ⟨1, _⟩ => lossVec p
  Φ _ := BI.emp
  q _ := fullShare
  owed _ := 0
  recorded _ := lowPairs (F := F) d

abbrev adm : (p : Fin 1) → (pcfgs (F := F) p).Adm := fun p => (cfgs p).toPCfg_adm

abbrev lossDats (p : Vec F S32x1x16 .f32) (s : Vec F S1x1 .f32) :
    (k : Fin 1) → (d : Dev nD) → Dat τ (Elt F) (HIx 1) ℕ UU ℕ (Pipeline.pin (pcfgs (F := F)) adm k) d :=
  fun _ d => lossDat p s d

variable (p : Vec F S32x1x16 .f32) (s : Vec F S1x1 .f32)

/-- The partial sums' staging buffer holds them when the body runs. -/
theorem before_parts (d : Dev nD) (x) : (lossDat p s d).before 0 t1_0 x = p := by
  unfold Dat.before
  rw [if_pos (by decide)]
  show ((cfg1.win 0).blk t1_0).view.read (Elt F) p = p
  funext y
  refine congrArg p (funext fun a => Fin.ext ?_)
  show win1_0.index t1_0 a * win1_0.size a + 1 * (y a).val = (y a).val
  rw [show win1_0.index t1_0 a = 0 from (by decide +kernel : ∀ a, win1_0.index t1_0 a = 0) a]
  omega

theorem body_obligation (d : Dev nD) : BodyObligation (lossDat p s d) (defs₀ (F := F)) 𝒱₀ (none : HIx 1) Set.univ := fun t => by
  obtain rfl := fin_N1 t
  rw [bigSep_W1, bigSep_W1]
  simp only [owns_whole_eq]
  rw [show (lossDat p s d).Φ t1_0.castSucc = BI.emp from rfl, show (lossDat p s d).Φ t1_0.succ = BI.emp from rfl,
    show (lossDat p s d).owesAt none t1_0.succ = (lossDat p s d).owesAt none t1_0.castSucc from rfl]
  iintro ⟨-, Howes, ⟨%d0, %f0, %hf0, H0⟩, ⟨%d1, %f1, -, H1⟩⟩
  rw [before_parts] at hf0
  subst hf0
  iapply (loss_body d f0 f1 Set.univ _)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [lossDat]
  iexists _; isplitr; swap; (· iexact H1); ipureintro; dsimp only [lossDat]

/-- The two arrays of the region, held whole. -/
theorem arrays_eq (d : Dev nD) (G) :
    ((lossDat p s d).arrays G : sProp 𝕄) = iprop((pLoc d ↦{fullShare} G 0) ∗ (sLoc d ↦{fullShare} G 1)) := by
  unfold Dat.arrays
  rw [bigSep_W1, (lossDat p s d).share_full (fun _ => rfl), (lossDat p s d).share_full (fun _ => rfl)]
  rw [show (cfg1.win 0).arr.view.set = Finset.univ from View.set_whole _, show (cfg1.win 1).arr.view.set = Finset.univ from View.set_whole _]

theorem parts_end (d : Dev nD) : (lossDat p s d).arrAt 0 cfg1.N = p := (lossDat p s d).arrAt_in 0 rfl _

theorem loss_end (d : Dev nD) : (lossDat p s d).arrAt 1 cfg1.N = lossVec p :=
  (lossDat p s d).arrAt_eq_of_after_last 1 t1_0 (by decide +kernel) _ fun _ => rfl

/-! ## The region -/

/-- What @main holds at the call: the partial sums, the cell's array, and the TensorCore owing nothing. -/
abbrev lossState (v : Vec F S1x1 .f32) (d : Dev nD) : sProp 𝕄 :=
  iprop((pLoc d ↦{fullShare} p) ∗ (sLoc d ↦{fullShare} v)
    ∗ ∃ W, ⌜(K (F := F)).WBelow (d.tc : Thread nD τ) W 8⌝ ∗ owes (d.tc : Thread nD τ) (0 : CellTallies nD τ sig (HIx 1)) W)

set_option backward.isDefEq.respectTransparency.types false in
def lossSeg : Pipeline.RegionSeg (pcfgs (F := F)) adm (lossDats p s) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody d := (body_obligation p s d).loose
  hwaits := Pipeline.hwaits_of_owed_zero _ _ _ _ (K (F := F)).L (K (F := F)).lev 0 fun _ _ => rfl
  pre := lossState p s
  post := lossState p (lossVec p)
  X _ := BI.emp
  Y _ := BI.emp
  Z _ := BI.emp
  hentry d := by
    rw [Pipeline.ownSems0_none]
    have ha := arrays_eq p s d (lossDat p s d).A
    unfold lossState
    iintro ⟨⟨Hp, Hs, %W, %hW, HO⟩, -, -⟩
    imodintro
    isplitl [Hp Hs]
    · iapply (Entails.of_eq ha.symm); isplitl [Hp]; · iexact Hp
      iexact Hs
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun x hx => Or.inl (hW x hx)
      iexact HO
    isplitr <;> iempintro
  hin d := by
    rw [show (lossDats p s 0 d).Φ 0 = BI.emp from rfl]
    iintro ⟨-, -, -⟩; iempintro
  hout d := by
    rw [Pipeline.ownSems0_none, show (lossDats p s 0 d).Φ (Fin.last _) = BI.emp from rfl]
    iintro -
    isplitr; · iempintro
    isplitr; · iempintro
    iapply (Entails.of_eq (scopedRest1_eq (Ix := HIx 1) (Val := Elt F) (Name := ℕ) (U := UU) (Lvl := ℕ) d).symm)
    iempintro
  hexit d := by
    have ha := arrays_eq p s d ((lossDat p s d).arrAt · cfg1.N)
    rw [parts_end, loss_end] at ha
    unfold lossState
    iintro ⟨Ha, HO, -, -⟩
    imodintro
    ihave Ha := (Entails.of_eq ha) $$ Ha
    icases Ha with ⟨Hp, Hs⟩
    isplitl [Hp]; · iexact Hp
    isplitl [Hs]; · iexact Hs
    unfold Pipeline.Dat.owesAt Pipeline.owesWithin
    icases HO with ⟨%W, %hW, HO⟩
    iexists W
    isplitr
    · ipureintro
      intro x hx
      rcases hW hx with h | ⟨w, j, rfl⟩
      · exact h
      · exact Nat.zero_le _
    iexact HO

abbrev DD : Defs nD τ sig (Elt F) (ΛP (F := F)) := Pipeline.defs pcfgs defs₀

/-- The call as the pipelines' own body table has it. -/
abbrev lossCall : Prog (TpuEff nD τ sig (Elt F) (ΛP (F := F)) .tc) PUnit := .op (.customCall (Pipeline.entry 0) ()) fun _ => .ret ⟨⟩

theorem lossCall_lift : (Prog.lift (.customCall (SparseCore.inner (Pipeline.entry 0)) ()) : Prog (TpuEff nD τ sig (Elt F) (SparseCore.Sig (ΛP (F := F)) 1) .tc) PUnit)
    = SparseCore.liftProg (lossCall (F := F)) := rfl

theorem wp_lossCall (d : Dev nD) (Q : PUnit → sProp 𝕄) :
    iprop((iprop(boundary (d.tc : Thread nD τ) ∗ lossState p (lossVec p) d) -∗ Q ⟨⟩)
        ∗ boundary (d.tc : Thread nD τ) ∗ lossState p s d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (DD (F := F)) 𝒱 (d.tc : Thread nD τ) none) Set.univ (lossCall (F := F)) Q := by
  have h := Pipeline.RegionSeg.wp (pcfgs (F := F)) adm (lossDats p s) (none : HIx 1) cellOf_inj EP defs₀ 𝒱₀
    (K (F := F)).L (K (F := F)).lev (lossSeg p s) d none (fun _ h => by cases h) (fun _ => .ret ⟨⟩) Q
  rw [wp_ret] at h
  have hk : iprop(iprop(boundary (d.tc : Thread nD τ) ∗ lossState p (lossVec p) d) -∗ Q ⟨⟩)
      ⊢ iprop(iprop(boundary (d.tc : Thread nD τ) ∗ lossState p (lossVec p) d) -∗ |={Set.univ}=> Q ⟨⟩) := by
    iintro Hk Hpost
    imodintro
    iapply Hk
    iexact Hpost
  exact (sep_mono_l hk).trans h

/-- The step @main takes at the loss kernel's call. -/
theorem wp_loss (d : Dev nD) (Q : PUnit → sProp 𝕄) :
    iprop((iprop(boundary (d.tc : Thread nD τ) ∗ lossState p (lossVec p) d) -∗ Q ⟨⟩)
        ∗ boundary (d.tc : Thread nD τ) ∗ lossState p s d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (DD (F := F))) 𝒱 (d.tc : Thread nD τ) none) Set.univ
          (Prog.lift (.customCall (SparseCore.inner (Pipeline.entry 0)) ())) Q := by
  rw [lossCall_lift]
  exact (wp_lossCall p s d Q).trans ((K (F := F)).wp_liftProg (DD (F := F)) 𝒱 (d.tc : Thread nD τ) Set.univ none (lossCall (F := F)) Q)

end Cert.Proof.Fsq
-- ==== Proof.Launch.lean ====
/-
  The launch: what the SparseCore call hands its tiles and takes back, @main on the TensorCore, and the run of the whole
  program — every execution ends with the inputs as they were, every semaphore at zero and the three results in place.
-/
module

public import proofs.«01_k».proof.Proof.Pieces
public import proofs.«01_k».proof.Proof.LossRegion
public import Idealize.ShloMosaic.Lib.SparseCore.Quiescent

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin cellsGhost toksInit)

variable {F : FTy → Type} [FloatOps F] [Named F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

theorem nSub_zero : (K (F := F)).nSub 0 = 16 := rfl
theorem nCore_zero : (K (F := F)).nCore 0 = 2 := rfl

variable (m : (ℓ : Loc nD τ sig) → Buf (Elt F) ℓ)

/-! ## The arrays' contents -/

abbrev zLoc (d : Dev nD) : Loc nD τ sig := (SparseCore.T d).loc main_arg0
abbrev lLoc (d : Dev nD) : Loc nD τ sig := (SparseCore.T d).loc main_v3
abbrev zqLoc (d : Dev nD) : Loc nD τ sig := (SparseCore.T d).loc main_v4
abbrev ixLoc (d : Dev nD) : Loc nD τ sig := (SparseCore.T d).loc main_v5

/-- The input with its last two axes exchanged, as the tiles read it. -/
def zT (z : Vec F S4x4x196x64 .f32) : Vec F S4x4x64x196 .f32 := transpose S4x4x64x196 [0, 1, 3, 2] z transposes_S4x4x196x64_S4x4x64x196_0_1_3_2
/-- A result of the tiles with its axes exchanged back. -/
def unT {e : EltTy} (v : Vec F S4x4x64x196 e) : Vec F S4x4x196x64 e := transpose S4x4x196x64 [0, 1, 3, 2] v transposes_S4x4x64x196_S4x4x196x64_0_1_3_2

/-- The three results, from the input and the bins. -/
def valOut (z : Vec F S4x4x196x64 .f32) (n : Vec F S64x256 .f32) : Vec F S4x4x196x64 .f32 := unT (valArr (zT z) n)
def idxOut (z : Vec F S4x4x196x64 .f32) (n : Vec F S64x256 .f32) : Vec F S4x4x196x64 .i32 := unT (idxArr (zT z) n)
def lossOut (z : Vec F S4x4x196x64 .f32) (n : Vec F S64x256 .f32) : Vec F S_ .f32 := fun _ => k1_pay1 (partArr (zT z) n)

/-! ## What the call hands over -/

abbrev payIn (d : Dev nD) (c : Fin 2) (i : Fin 16) : sProp 𝕄 :=
  tileIn d (tileOf (c, i)) (shareOf (c, i)) (zT (m (zLoc d))) (m (nLoc d)) (m (qLoc d)) (m (iLoc d)) (m (pLoc d))
abbrev payOut (d : Dev nD) (c : Fin 2) (i : Fin 16) : sProp 𝕄 :=
  tileIn d (tileOf (c, i)) (shareOf (c, i)) (zT (m (zLoc d))) (m (nLoc d)) (valArr (zT (m (zLoc d))) (m (nLoc d)))
    (idxArr (zT (m (zLoc d))) (m (nLoc d))) (partArr (zT (m (zLoc d))) (m (nLoc d)))

def P : (K (F := F)).Pay (nD := nD) (Val := Elt F) (Name := ℕ) (U := UU) where
  st := fun q d c => match q with | 0 => bigSep Finset.univ fun i : Fin 16 => payIn m d (Fin.cast nCore_zero c) i
  dn := fun q d c => match q with | 0 => bigSep Finset.univ fun i : Fin 16 => payOut m d (Fin.cast nCore_zero c) i
  go := fun q d c i => match q with | 0 => payIn m d (Fin.cast nCore_zero c) (Fin.cast nSub_zero i)
  td := fun q d c i => match q with | 0 => payOut m d (Fin.cast nCore_zero c) (Fin.cast nSub_zero i)
  x := fun _ _ => iprop(emp)

instance P_storable : (P m).IsStorable where
  st q d c := match q with
    | 0 => (inferInstance : BI.Storable (upEmb : UEmb _ 𝕄) (bigSep Finset.univ fun i : Fin 16 => payIn m d (Fin.cast nCore_zero c) i))
  dn q d c := match q with
    | 0 => (inferInstance : BI.Storable (upEmb : UEmb _ 𝕄) (bigSep Finset.univ fun i : Fin 16 => payOut m d (Fin.cast nCore_zero c) i))
  go q d c i := match q with
    | 0 => (inferInstance : BI.Storable (upEmb : UEmb _ 𝕄) (payIn m d (Fin.cast nCore_zero c) (Fin.cast nSub_zero i)))
  td q d c i := match q with
    | 0 => (inferInstance : BI.Storable (upEmb : UEmb _ 𝕄) (payOut m d (Fin.cast nCore_zero c) (Fin.cast nSub_zero i)))

/-! ## The tiles -/

theorem defs₀_vector (c : Fin τ.nSC) (s : Fin τ.nSub) :
    defs₀ (F := F) (.scVector c s) 0 ()
      = SparseCore.onTile hcore0 hsub0 (fun c s => cc0__fsq_body (coordsV c s)
          (Memref.whole main_v0_scv) (Memref.isWhole_whole _) (Memref.whole main_arg1_scv) (Memref.isWhole_whole _) (Memref.whole main_v1_0_scv) (Memref.isWhole_whole _)
          (Memref.whole main_v1_1_scv) (Memref.isWhole_whole _) (Memref.whole main_v1_2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (DD (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (DD (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts _ _ _ _ _ _ O W hO).trans (wp_mono frame _ _ fun _ => obl_post)

theorem vecSplit : (K (F := F)).VecSplit' (P m) 0 := by
  intro d c
  show (bigSep Finset.univ fun i : Fin 16 => payIn m d (Fin.cast nCore_zero c) i) ⊢ |={Set.univ}=> iprop(
      (bigSep Finset.univ fun i : Fin 16 => payIn m d (Fin.cast nCore_zero c) i)
      ∗ ((bigSep Finset.univ fun i : Fin 16 => payOut m d (Fin.cast nCore_zero c) i)
          -∗ (bigSep Finset.univ fun i : Fin 16 => payOut m d (Fin.cast nCore_zero c) i)))
  iintro H; imodintro
  isplitl [H]; · iexact H
  iintro H; iexact H

/-! ## The launch's ghost state -/

/-- What the loss kernel's pipeline starts from. -/
abbrev G (d : Dev nD) : sProp 𝕄 :=
  iprop(cellsGhost (pin (pcfgs (F := F)) adm) EP 0 d ∗ toksInit (pin (pcfgs (F := F)) adm) EP 0 d)

def u₀ : UU := (initOf (K (F := F)).hsCells (K (F := F)).hsToks,
  (initOf (Pipeline.cells (pin (pcfgs (F := F)) adm) cellOf_inj) (Pipeline.launchToks (pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  have two (R S : Dev nD → Fin 1 → sProp 𝕄) : iprop((bigSep Finset.univ fun d : Dev nD => bigSep Finset.univ fun p => R d p) ∗ bigSep Finset.univ fun d : Dev nD => bigSep Finset.univ fun p => S d p)
      = bigSep Finset.univ fun d : Dev nD => iprop(R d 0 ∗ S d 0) := by
    rw [bigSep_sep']
    congr 1 <;> exact bigSep_congr fun d _ => bigSep_univ_of_subsingleton (0 : Fin 1)
  iintro Hu
  ihave H := (ownU_pair (initOf (K (F := F)).hsCells (K (F := F)).hsToks)
    ((initOf (Pipeline.cells (pin (pcfgs (F := F)) adm) cellOf_inj) (Pipeline.launchToks (pin (pcfgs (F := F)) adm) cellOf_inj), 1) : UP × Counters)) $$ Hu
  icases H with ⟨HH, HR⟩
  ihave H := (own_pair_emb embR (initOf (Pipeline.cells (pin (pcfgs (F := F)) adm) cellOf_inj) (Pipeline.launchToks (pin (pcfgs (F := F)) adm) cellOf_inj)) (1 : Counters)) $$ HR
  icases H with ⟨HP, -⟩
  imod (Pipeline.fund_ghost (pin (pcfgs (F := F)) adm) EP cellOf_inj) $$ [HP] with HG
  · iexact HP
  imodintro
  isplitl [HH]; · iexact HH
  isplitl [HG]
  · iapply (Entails.of_eq (two (fun d p => cellsGhost (pin (pcfgs (F := F)) adm) EP p d) fun d p => toksInit (pin (pcfgs (F := F)) adm) EP p d)); iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

theorem unscopedBufs_eq (d : Dev nD) (W : (b : Ref sig .tc) → Buf (Elt F) ((d.tc : Thread nD τ).loc b)) :
    (unscopedBufs d W : sProp 𝕄) = iprop((zLoc d ↦{fullShare} W main_arg0) ∗ (nLoc d ↦{fullShare} W main_arg1) ∗ (aLoc d ↦{fullShare} W main_v0)
      ∗ (qLoc d ↦{fullShare} W main_v1_0) ∗ (iLoc d ↦{fullShare} W main_v1_1) ∗ (pLoc d ↦{fullShare} W main_v1_2)
      ∗ (sLoc d ↦{fullShare} W main_v2) ∗ (lLoc d ↦{fullShare} W main_v3) ∗ (zqLoc d ↦{fullShare} W main_v4) ∗ (ixLoc d ↦{fullShare} W main_v5)) := by
  unfold unscopedBufs
  rw [show (Finset.univ.filter fun b : Ref sig .tc => ¬ b.isScoped)
      = {main_arg0, main_arg1, main_v0, main_v1_0, main_v1_1, main_v1_2, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = (iprop((aLoc d ↦{fullShare} zT (m (zLoc d))) ∗ (nLoc d ↦{fullShare} m (nLoc d)) ∗ (qLoc d ↦{fullShare} m (qLoc d)) ∗ (iLoc d ↦{fullShare} m (iLoc d))
        ∗ (pLoc d ↦{fullShare} m (pLoc d))) : sProp 𝕄) :=
  (tiles_eq d _ _ _ _ _).symm
theorem dn0_eq (d : Dev nD) : (bigSep Finset.univ fun c : Fin ((K (F := F)).nCore 0) => (P m).dn 0 d c)
    = (iprop((aLoc d ↦{fullShare} zT (m (zLoc d))) ∗ (nLoc d ↦{fullShare} m (nLoc d)) ∗ (qLoc d ↦{fullShare} valArr (zT (m (zLoc d))) (m (nLoc d)))
        ∗ (iLoc d ↦{fullShare} idxArr (zT (m (zLoc d))) (m (nLoc d))) ∗ (pLoc d ↦{fullShare} partArr (zT (m (zLoc d))) (m (nLoc d)))) : sProp 𝕄) :=
  (tiles_eq d _ _ _ _ _).symm

/-- After the SparseCore call the TensorCore owes nothing: its account goes out and comes back. -/
theorem owes_out (d : Dev nD) : ((K (F := F)).tcSt EH d 1 : sProp 𝕄)
    ⊢ iprop((∃ W, ⌜(K (F := F)).WBelow (d.tc : Thread nD τ) W 8⌝ ∗ owes (d.tc : Thread nD τ) 0 W)
        ∗ ((∃ W, ⌜(K (F := F)).WBelow (d.tc : Thread nD τ) W 8⌝ ∗ owes (d.tc : Thread nD τ) 0 W) -∗ (K (F := F)).tcSt EH d 1)) := by
  unfold SparseCore.Cfg.tcSt
  rw [(K (F := F)).Otc_end d (n := 1) (le_refl 1)]
  iintro ⟨HO, HR⟩
  isplitl [HO]; · iexact HO
  iintro HO
  isplitl [HO]; · iexact HO
  iexact HR

/-- What @main leaves: the inputs and the three results. -/
abbrev FIN (d : Dev nD) : sProp 𝕄 :=
  iprop((zLoc d ↦{fullShare} m (zLoc d)) ∗ (nLoc d ↦{fullShare} m (nLoc d)) ∗ (lLoc d ↦{fullShare} lossOut (m (zLoc d)) (m (nLoc d)))
    ∗ (zqLoc d ↦{fullShare} valOut (m (zLoc d)) (m (nLoc d))) ∗ (ixLoc d ↦{fullShare} idxOut (m (zLoc d)) (m (nLoc d))))

end Cert.Proof.Fsq

end
-- ==== Proof.MainRun.lean ====
/-
  @main on the TensorCore, and the run of the whole program: every execution ends with the inputs as they were, every
  semaphore at zero and the three results in place.
-/
module

public import proofs.«01_k».proof.Proof.Launch

@[expose] public section

noncomputable section

namespace Cert.Proof.Fsq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin cellsGhost toksInit)

variable {F : FTy → Type} [FloatOps F] [Named F]

local notation "𝕄" => MT nD τ sig (HIx 1) (Elt F) ℕ UU ℕ

variable (m : (ℓ : Loc nD τ sig) → Buf (Elt F) ℓ) (ρ : Dev nD → PrngReg)

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (DD (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hz, Hn, Ha, Hq, Hi, Hp, Hs, Hl, Hzq, Hix⟩, Hts, -⟩, ⟨Hcg, Htk⟩⟩
  -- the input transposed
  iapply (wp_step 𝒱 d none m _ (by decide) (StableHlo.unary_bufs ..) (StableHlo.unary_writes ..) rfl (m (zLoc d)) (m (aLoc d)) (zT (m (zLoc d)))
    (fun V h => (StableHlo.unary_result ..).trans (congrArg zT h)))
  isplitl [Hb]; · iexact Hb
  isplitl [Hz]; · iexact Hz
  isplitl [Ha]; · iexact Ha
  iintro ⟨Hb, Hz, Ha⟩
  -- the tiles
  iapply ((K (F := F)).wp_run (DD (F := F)) 𝒱 (EH := EH) (P := P m) κ d 0)
  isplitr; · iexact Hctx
  isplitl [Hst]; · iexact Hst
  isplitl [Ha Hn Hq Hi Hp]
  · rw [st0_eq]
    isplitl [Ha]; · iexact Ha
    isplitl [Hn]; · iexact Hn
    isplitl [Hq]; · iexact Hq
    isplitl [Hi]; · iexact Hi
    iexact Hp
  iintro ⟨Hst, Hdn⟩
  ihave Hdn' := (Entails.of_eq (dn0_eq m d)) $$ Hdn
  icases Hdn' with ⟨Ha, Hn, Hq, Hi, Hp⟩
  -- the loss kernel
  ihave Hst' := (show ((K (F := F)).tcSt EH d ((0 : Fin 1).val + 1) : sProp 𝕄) ⊢ _ from owes_out d) $$ Hst
  icases Hst' with ⟨HO, Hback⟩
  ihave #Hlev := ((K (F := F)).ctx_levAts κ) $$ Hctx
  iapply (wp_loss (partArr (zT (m (zLoc d))) (m (nLoc d))) (m (sLoc d)) d)
  isplitr [Hb Hp Hs HO Hcg Htk]
  swap
  · isplitl [Hb]; · iexact Hb
    isplitl [Hp Hs HO]
    · unfold lossState
      isplitl [Hp]; · iexact Hp
      isplitl [Hs]; · iexact Hs
      iexact HO
    isplitr; · iexact Hlev
    isplitl [Hcg]; · iexact Hcg
    iexact Htk
  iintro ⟨Hb, HL⟩
  unfold lossState
  icases HL with ⟨Hp, Hs, HO⟩
  ihave Hst := Hback $$ HO
  -- the loss as a scalar
  iapply (wp_step 𝒱 d none m _ (by decide) (StableHlo.reshape_bufs ..) (StableHlo.reshape_writes ..) rfl (lossVec (partArr (zT (m (zLoc d))) (m (nLoc d)))) (m (lLoc d))
    (lossOut (m (zLoc d)) (m (nLoc d))) (fun V h => (StableHlo.reshape_result ..).trans (by rw [h]; rfl)))
  isplitl [Hb]; · iexact Hb
  isplitl [Hs]; · iexact Hs
  isplitl [Hl]; · iexact Hl
  iintro ⟨Hb, Hs, Hl⟩
  -- the values and the indices transposed back
  iapply (wp_step 𝒱 d none m _ (by decide) (StableHlo.unary_bufs ..) (StableHlo.unary_writes ..) rfl (valArr (zT (m (zLoc d))) (m (nLoc d))) (m (zqLoc d))
    (valOut (m (zLoc d)) (m (nLoc d))) (fun V h => (StableHlo.unary_result ..).trans (congrArg unT h)))
  isplitl [Hb]; · iexact Hb
  isplitl [Hq]; · iexact Hq
  isplitl [Hzq]; · iexact Hzq
  iintro ⟨Hb, Hq, Hzq⟩
  iapply (wp_step 𝒱 d none m _ (by decide) (StableHlo.unary_bufs ..) (StableHlo.unary_writes ..) rfl (idxArr (zT (m (zLoc d))) (m (nLoc d))) (m (ixLoc d))
    (idxOut (m (zLoc d)) (m (nLoc d))) (fun V h => (StableHlo.unary_result ..).trans (congrArg unT h)))
  isplitl [Hb]; · iexact Hb
  isplitl [Hi]; · iexact Hi
  isplitl [Hix]; · iexact Hix
  iintro ⟨Hb, Hi, Hix⟩
  imodintro
  isplitl [Hst]; · iexact Hst
  isplitr [Hb Hts]
  · isplitl [Hz]; · iexact Hz
    isplitl [Hn]; · iexact Hn
    isplitl [Hl]; · iexact Hl
    isplitl [Hzq]; · iexact Hzq
    iexact Hix
  isplitl [Hb] <;> iassumption

/-! ## The run -/

/-- What the run leaves on device `d`: the inputs as they were, and the three results. -/
def fq (d : Dev nD) (s' : MemSt nD τ sig (Elt F)) : Prop :=
  s'.mem (zLoc d) = m (zLoc d) ∧ s'.mem (nLoc d) = m (nLoc d) ∧ s'.mem (lLoc d) = lossOut (m (zLoc d)) (m (nLoc d))
    ∧ s'.mem (zqLoc d) = valOut (m (zLoc d)) (m (nLoc d)) ∧ s'.mem (ixLoc d) = idxOut (m (zLoc d)) (m (nLoc d))

/-- A buffer held whole holds its contents in the machine's memory; the holding is kept. -/
theorem agrees (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'.mem⌝ : sProp 𝕄) := by
  iintro ⟨⟨Hz, Hn, Hl, Hq, Hi⟩, HSI⟩
  ihave H := (agrees _ _ s') $$ [HSI Hz]; · isplitl [Hz] <;> iassumption
  icases H with ⟨%h1, HSI⟩
  ihave H := (agrees _ _ s') $$ [HSI Hn]; · isplitl [Hn] <;> iassumption
  icases H with ⟨%h2, HSI⟩
  ihave H := (agrees _ _ s') $$ [HSI Hl]; · isplitl [Hl] <;> iassumption
  icases H with ⟨%h3, HSI⟩
  ihave H := (agrees _ _ s') $$ [HSI Hq]; · isplitl [Hq] <;> iassumption
  icases H with ⟨%h4, HSI⟩
  ihave H := (agrees _ _ s') $$ [HSI Hi]; · isplitl [Hi] <;> iassumption
  icases H with ⟨%h5, -⟩
  ipureintro; exact ⟨h1, h2, h3, h4, h5⟩

/-- Every execution of the program ends with `fq` on every device and every semaphore at zero. -/
theorem run_main [∀ e, Nonempty (Elt F e)] :
    θ_run (Cert.KernelIdeal.defs (F := F)) (Cert.KernelIdeal.threads (F := F)) ⟨m, fun _ => 0, ρ⟩
      (fun r => (∀ d : Dev nD, fq m d r.2) ∧ r.2.sem = fun _ => 0) :=
  SparseCore.Cfg.θ_run_sc_quiescent (K := K (F := F)) (D := DD (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fun d s' => fq m d s'.mem) (hfin m) _ (fun _ h hz => ⟨h, hz⟩)

end Cert.Proof.Fsq

end
-- ==== Proof.RefOps.lean ====
/-
  The reference runs: a straight line of host operations, cut here into five stretches — distances, nearest bin, bins
  taken, loss, results —, and what each stretch leaves in the buffers read after it.
-/
module

public import proofs.«01_k».proof.Defs
public import proofs.«01_k».proof.Proof.Gen.ReferenceIdeal
public import Idealize.ShloMosaic.Lib.StableHlo.RunHlo
public import Idealize.ShloMosaic.Adequacy
public import Idealize.ShloMosaic.Lib.Quiescent
public import Idealize.ShloMosaic.Init

@[expose] public section

noncomputable section

namespace Cert.Proof.FsqRef

open Cert.ReferenceIdeal Cert.ReferenceIdeal.Gen
open Idealize.ShloMosaic Idealize.ShloMosaic.TcCoe Idealize.SL.Sem
open Idealize.ShloMosaic.StableHlo (seq after after_cons after_nil launchContents tcRefs run_seq seq_append)

variable {F : FTy → Type} [FloatOps F] [Named F]

/-- The distances of every element from every bin. -/
def opsDist : List (HloOp τ sig (Elt F)) := [
  StableHlo.reshape main_arg0 main_v0 (rfl : (.f32 : EltTy) = .f32) shapeCasts_S4x4x196x64_S3136x64,
  StableHlo.unary main_v0 main_v1 (broadcastInDim S3136x64x1 ![0, 1] bcast_S3136x64_S3136x64x1_0_1 : (⟨S3136x64, .f32⟩ : BufTy).Contents (Elt F) → (⟨S3136x64x1, .f32⟩ : BufTy).Contents (Elt F)),
  StableHlo.unary main_arg1 main_v2 (broadcastInDim S1x64x256 ![1, 2] bcast_S64x256_S1x64x256_1_2 : (⟨S64x256, .f32⟩ : BufTy).Contents (Elt F) → (⟨S1x64x256, .f32⟩ : BufTy).Contents (Elt F)),
  StableHlo.unary main_v1 main_v3 (broadcastInDim S3136x64x256 ![0, 1, 2] bcast_S3136x64x1_S3136x64x256_0_1_2 : (⟨S3136x64x1, .f32⟩ : BufTy).Contents (Elt F) → (⟨S3136x64x256, .f32⟩ : BufTy).Contents (Elt F)),
  StableHlo.unary main_v2 main_v4 (broadcastInDim S3136x64x256 ![0, 1, 2] bcast_S1x64x256_S3136x64x256_0_1_2 : (⟨S1x64x256, .f32⟩ : BufTy).Contents (Elt F) → (⟨S3136x64x256, .f32⟩ : BufTy).Contents (Elt F)),
  StableHlo.binary main_v3 main_v4 main_v5 (subf : (⟨S3136x64x256, .f32⟩ : BufTy).Contents (Elt F) → (⟨S3136x64x256, .f32⟩ : BufTy).Contents (Elt F) → (⟨S3136x64x256, .f32⟩ : BufTy).Contents (Elt F)),
  StableHlo.unary main_v5 main_v6 (Host.absf : (⟨S3136x64x256, .f32⟩ : BufTy).Contents (Elt F) → (⟨S3136x64x256, .f32⟩ : BufTy).Contents (Elt F))]

/-- The number of the nearest bin. -/
def opsArg : List (HloOp τ sig (Elt F)) := [
  StableHlo.nullary main_call0_v0 ((iotaInDim S3136x64x256 32 2) : BufTy.Contents (Elt F) ⟨S3136x64x256, .i32⟩),
  StableHlo.nullary main_call0_cst ((constant S_ .f32 0x7F800000#32) : BufTy.Contents (Elt F) ⟨S_, .f32⟩),
  StableHlo.nullary main_call0_c ((constantI S_ 32 0#32) : BufTy.Contents (Elt F) ⟨S_, .i32⟩),
  StableHlo.quaternary main_v6 main_call0_v0 main_call0_cst main_call0_c main_call0_v1_0 ((fun x y u v j => (Host.argReduce reducer_argmin_f32_i32 x y u v reducesTo_S3136x64x256_S3136x64_d2 h_S_ j).1) : BufTy.Contents (Elt F) ⟨S3136x64x256, .f32⟩ → BufTy.Contents (Elt F) ⟨S3136x64x256, .i32⟩ → BufTy.Contents (Elt F) ⟨S_, .f32⟩ → BufTy.Contents (Elt F) ⟨S_, .i32⟩ → BufTy.Contents (Elt F) ⟨S3136x64, .f32⟩),
  StableHlo.quaternary main_v6 main_call0_v0 main_call0_cst main_call0_c main_v7 ((fun x y u v j => (Host.argReduce reducer_argmin_f32_i32 x y u v reducesTo_S3136x64x256_S3136x64_d2 h_S_ j).2) : BufTy.Contents (Elt F) ⟨S3136x64x256, .f32⟩ → BufTy.Contents (Elt F) ⟨S3136x64x256, .i32⟩ → BufTy.Contents (Elt F) ⟨S_, .f32⟩ → BufTy.Contents (Elt F) ⟨S_, .i32⟩ → BufTy.Contents (Elt F) ⟨S3136x64, .i32⟩)]

/-- The bins taken by those numbers. -/
def opsTake : List (HloOp τ sig (Elt F)) := [
  StableHlo.unary main_v7 main_v8 ((transpose S64x3136 [1, 0] · transposes_S3136x64_S64x3136_1_0) : (⟨S3136x64, .i32⟩ : BufTy).Contents (Elt F) → (⟨S64x3136, .i32⟩ : BufTy).Contents (Elt F)),
  StableHlo.nullary main_call1_c ((constantI S_ 32 0#32) : BufTy.Contents (Elt F) ⟨S_, .i32⟩),
  StableHlo.unary main_call1_c main_call1_v0 ((broadcastInDim S64x3136 ![] bcast_S_S64x3136) : BufTy.Contents (Elt F) ⟨S_, .i32⟩ → BufTy.Contents (Elt F) ⟨S64x3136, .i32⟩),
  StableHlo.binary main_v8 main_call1_v0 main_call1_v1 ((cmpi .slt) : BufTy.Contents (Elt F) ⟨S64x3136, .i32⟩ → BufTy.Contents (Elt F) ⟨S64x3136, .i32⟩ → BufTy.Contents (Elt F) ⟨S64x3136, .i1⟩),
  StableHlo.nullary main_call1_c_0 ((constantI S_ 32 256#32) : BufTy.Contents (Elt F) ⟨S_, .i32⟩),
  StableHlo.unary main_call1_c_0 main_call1_v2 ((broadcastInDim S64x3136 ![] bcast_S_S64x3136) : BufTy.Contents (Elt F) ⟨S_, .i32⟩ → BufTy.Contents (Elt F) ⟨S64x3136, .i32⟩),
  StableHlo.binary main_v8 main_call1_v2 main_call1_v3 (addi : BufTy.Contents (Elt F) ⟨S64x3136, .i32⟩ → BufTy.Contents (Elt F) ⟨S64x3136, .i32⟩ → BufTy.Contents (Elt F) ⟨S64x3136, .i32⟩),
  StableHlo.ternary main_call1_v1 main_call1_v3 main_v8 main_call1_v4 (select : BufTy.Contents (Elt F) ⟨S64x3136, .i1⟩ → BufTy.Contents (Elt F) ⟨S64x3136, .i32⟩ → BufTy.Contents (Elt F) ⟨S64x3136, .i32⟩ → BufTy.Contents (Elt F) ⟨S64x3136, .i32⟩),
  StableHlo.reshape main_call1_v4 main_call1_v5 (rfl : (.i32 : EltTy) = .i32) shapeCasts_S64x3136_S64x3136x1,
  StableHlo.nullary main_call1_c_1 ((constantI S1 32 255#32) : BufTy.Contents (Elt F) ⟨S1, .i32⟩),
  StableHlo.nullary main_call1_c_2 ((constantI S_ 32 0#32) : BufTy.Contents (Elt F) ⟨S_, .i32⟩),
  StableHlo.unary main_call1_c_2 main_call1_v6 ((broadcastInDim S64x3136x1 ![] bcast_S_S64x3136x1) : BufTy.Contents (Elt F) ⟨S_, .i32⟩ → BufTy.Contents (Elt F) ⟨S64x3136x1, .i32⟩),
  StableHlo.binary main_call1_v5 main_call1_v6 main_call1_v7 ((cmpi .sge) : BufTy.Contents (Elt F) ⟨S64x3136x1, .i32⟩ → BufTy.Contents (Elt F) ⟨S64x3136x1, .i32⟩ → BufTy.Contents (Elt F) ⟨S64x3136x1, .i1⟩),
  StableHlo.unary main_call1_c_1 main_call1_v8 ((broadcastInDim S1x1x1 ![2] bcast_S1_S1x1x1_2) : BufTy.Contents (Elt F) ⟨S1, .i32⟩ → BufTy.Contents (Elt F) ⟨S1x1x1, .i32⟩),
  StableHlo.unary main_call1_v8 main_call1_v9 ((broadcastInDim S64x3136x1 ![0, 1, 2] bcast_S1x1x1_S64x3136x1_0_1_2) : BufTy.Contents (Elt F) ⟨S1x1x1, .i32⟩ → BufTy.Contents (Elt F) ⟨S64x3136x1, .i32⟩),
  StableHlo.binary main_call1_v5 main_call1_v9 main_call1_v10 ((cmpi .sle) : BufTy.Contents (Elt F) ⟨S64x3136x1, .i32⟩ → BufTy.Contents (Elt F) ⟨S64x3136x1, .i32⟩ → BufTy.Contents (Elt F) ⟨S64x3136x1, .i1⟩),
  StableHlo.binary main_call1_v7 main_call1_v10 main_call1_v11 (andi : BufTy.Contents (Elt F) ⟨S64x3136x1, .i1⟩ → BufTy.Contents (Elt F) ⟨S64x3136x1, .i1⟩ → BufTy.Contents (Elt F) ⟨S64x3136x1, .i1⟩),
  StableHlo.nullary main_call1_c_3 ((constantI S_ 1 1#1) : BufTy.Contents (Elt F) ⟨S_, .i1⟩),
  StableHlo.binary main_call1_v11 main_call1_c_3 main_call1_v12 ((fun x v => Host.reduce IntOp.andi x v reducesTo_S64x3136x1_S64x3136_d2 h_S_) : BufTy.Contents (Elt F) ⟨S64x3136x1, .i1⟩ → BufTy.Contents (Elt F) ⟨S_, .i1⟩ → BufTy.Contents (Elt F) ⟨S64x3136, .i1⟩),
  StableHlo.binary main_arg1 main_call1_v5 main_call1_v13 ((fun x i => Host.gather gather_S64x256_S64x3136x1_S64x3136_n_1_0_0_1_2_11 x i) : BufTy.Contents (Elt F) ⟨S64x256, .f32⟩ → BufTy.Contents (Elt F) ⟨S64x3136x1, .i32⟩ → BufTy.Contents (Elt F) ⟨S64x3136, .f32⟩),
  StableHlo.nullary main_call1_cst ((constant S_ .f32 0x7FC00000#32) : BufTy.Contents (Elt F) ⟨S_, .f32⟩),
  StableHlo.unary main_call1_cst main_call1_v14 ((broadcastInDim S64x3136 ![] bcast_S_S64x3136) : BufTy.Contents (Elt F) ⟨S_, .f32⟩ → BufTy.Contents (Elt F) ⟨S64x3136, .f32⟩),
  StableHlo.ternary main_call1_v12 main_call1_v13 main_call1_v14 main_v9 (select : BufTy.Contents (Elt F) ⟨S64x3136, .i1⟩ → BufTy.Contents (Elt F) ⟨S64x3136, .f32⟩ → BufTy.Contents (Elt F) ⟨S64x3136, .f32⟩ → BufTy.Contents (Elt F) ⟨S64x3136, .f32⟩),
  StableHlo.unary main_v9 main_v10 ((transpose S3136x64 [1, 0] · transposes_S64x3136_S3136x64_1_0) : (⟨S64x3136, .f32⟩ : BufTy).Contents (Elt F) → (⟨S3136x64, .f32⟩ : BufTy).Contents (Elt F))]

/-- The two losses and their sum. -/
def opsLoss : List (HloOp τ sig (Elt F)) := [
  StableHlo.binary main_v0 main_v10 main_v11 (subf : (⟨S3136x64, .f32⟩ : BufTy).Contents (Elt F) → (⟨S3136x64, .f32⟩ : BufTy).Contents (Elt F) → (⟨S3136x64, .f32⟩ : BufTy).Contents (Elt F)),
  StableHlo.binary main_v11 main_v11 main_v12 (mulf : (⟨S3136x64, .f32⟩ : BufTy).Contents (Elt F) → (⟨S3136x64, .f32⟩ : BufTy).Contents (Elt F) → (⟨S3136x64, .f32⟩ : BufTy).Contents (Elt F)),
  StableHlo.nullary main_cst (constant S_ .f32 0x00000000#32),
  StableHlo.binary main_v12 main_cst main_v13 ((fun x v => Host.reduceAdd x v reducesTo_S3136x64_S_d0_1 h_S_) : (⟨S3136x64, .f32⟩ : BufTy).Contents (Elt F) → (⟨S_, .f32⟩ : BufTy).Contents (Elt F) → (⟨S_, .f32⟩ : BufTy).Contents (Elt F)),
  StableHlo.nullary main_cst_0 (constant S_ .f32 0x48440000#32),
  StableHlo.binary main_v13 main_cst_0 main_v14 (Host.divf : (⟨S_, .f32⟩ : BufTy).Contents (Elt F) → (⟨S_, .f32⟩ : BufTy).Contents (Elt F) → (⟨S_, .f32⟩ : BufTy).Contents (Elt F)),
  StableHlo.binary main_v0 main_v10 main_v15 (subf : (⟨S3136x64, .f32⟩ : BufTy).Contents (Elt F) → (⟨S3136x64, .f32⟩ : BufTy).Contents (Elt F) → (⟨S3136x64, .f32⟩ : BufTy).Contents (Elt F)),
  StableHlo.binary main_v15 main_v15 main_v16 (mulf : (⟨S3136x64, .f32⟩ : BufTy).Contents (Elt F) → (⟨S3136x64, .f32⟩ : BufTy).Contents (Elt F) → (⟨S3136x64, .f32⟩ : BufTy).Contents (Elt F)),
  StableHlo.nullary main_cst_1 (constant S_ .f32 0x00000000#32),
  StableHlo.binary main_v16 main_cst_1 main_v17 ((fun x v => Host.reduceAdd x v reducesTo_S3136x64_S_d0_1 h_S_) : (⟨S3136x64, .f32⟩ : BufTy).Contents (Elt F) → (⟨S_, .f32⟩ : BufTy).Contents (Elt F) → (⟨S_, .f32⟩ : BufTy).Contents (Elt F)),
  StableHlo.nullary main_cst_2 (constant S_ .f32 0x48440000#32),
  StableHlo.binary main_v17 main_cst_2 main_v18 (Host.divf : (⟨S_, .f32⟩ : BufTy).Contents (Elt F) → (⟨S_, .f32⟩ : BufTy).Contents (Elt F) → (⟨S_, .f32⟩ : BufTy).Contents (Elt F)),
  StableHlo.nullary main_cst_3 (constant S_ .f32 0x3F800000#32),
  StableHlo.binary main_cst_3 main_v18 main_v19 (mulf : (⟨S_, .f32⟩ : BufTy).Contents (Elt F) → (⟨S_, .f32⟩ : BufTy).Contents (Elt F) → (⟨S_, .f32⟩ : BufTy).Contents (Elt F)),
  StableHlo.binary main_v14 main_v19 main_v20 (addf : (⟨S_, .f32⟩ : BufTy).Contents (Elt F) → (⟨S_, .f32⟩ : BufTy).Contents (Elt F) → (⟨S_, .f32⟩ : BufTy).Contents (Elt F))]

/-- The two results in the shape of the input. -/
def opsOut : List (HloOp τ sig (Elt F)) := [
  StableHlo.reshape main_v10 main_v21 (rfl : (.f32 : EltTy) = .f32) shapeCasts_S3136x64_S4x4x196x64,
  StableHlo.reshape main_v7 main_v22 (rfl : (.i32 : EltTy) = .i32) shapeCasts_S3136x64_S4x4x196x64,
  StableHlo.binary main_v21 main_arg0 main_v23 (subf : (⟨S4x4x196x64, .f32⟩ : BufTy).Contents (Elt F) → (⟨S4x4x196x64, .f32⟩ : BufTy).Contents (Elt F) → (⟨S4x4x196x64, .f32⟩ : BufTy).Contents (Elt F)),
  StableHlo.binary main_arg0 main_v23 main_v24 (addf : (⟨S4x4x196x64, .f32⟩ : BufTy).Contents (Elt F) → (⟨S4x4x196x64, .f32⟩ : BufTy).Contents (Elt F) → (⟨S4x4x196x64, .f32⟩ : BufTy).Contents (Elt F))]

/-- The whole line. -/
def ops : List (HloOp τ sig (Elt F)) := opsDist ++ (opsArg ++ (opsTake ++ (opsLoss ++ opsOut)))

set_option maxRecDepth 8192
seal Host.reduce Host.gather Host.argReduce in
theorem main_eq (c : Dev nD) : main (F := F) c = seq ops := by rfl

theorem scopedRefs_eq : (Finset.univ.filter fun b : Ref sig .tc => b.isScoped) = ∅ := by
  refine Finset.filter_eq_empty_iff.2 fun b _ => ?_
  obtain ⟨sp, i, _⟩ := b
  cases sp <;> first | exact Bool.false_ne_true | exact i.elim0
theorem scopedSems_eq : (Finset.univ.filter fun sm : SemLoc sig => sm.isScoped .tc) = ∅ := by decide

theorem ops_sub : (ops (F := F)).Forall fun op => op.bufs ⊆ tcRefs τ sig := by
  simp only [ops, opsDist, opsArg, opsTake, opsLoss, opsOut, List.cons_append, List.nil_append, List.forall_cons, List.Forall,
    StableHlo.nullary_bufs_sub, StableHlo.unary_bufs_sub, StableHlo.binary_bufs_sub, StableHlo.ternary_bufs_sub, StableHlo.quaternary_bufs_sub,
    StableHlo.reshape_bufs_sub, and_self]

theorem ops_fresh : ∀ op ∈ ops (F := F), op.fresh = ∅ := by
  intro op h
  simp only [ops, opsDist, opsArg, opsTake, opsLoss, opsOut, List.cons_append, List.nil_append] at h
  repeat (cases h with | head => rfl | tail _ h => ?_)
  exact nomatch h

/-! ## The functions the stretches compute -/

def flat (z : FVec F S4x4x196x64 .f32) : FVec F S3136x64 .f32 := shapeCast S3136x64 z shapeCasts_S4x4x196x64_S3136x64

def distArr (z : FVec F S4x4x196x64 .f32) (b : FVec F S64x256 .f32) : FVec F S3136x64x256 .f32 :=
  Host.absf (subf
    (broadcastInDim S3136x64x256 ![0, 1, 2] bcast_S3136x64x1_S3136x64x256_0_1_2 (broadcastInDim S3136x64x1 ![0, 1] bcast_S3136x64_S3136x64x1_0_1 (flat z)))
    (broadcastInDim S3136x64x256 ![0, 1, 2] bcast_S1x64x256_S3136x64x256_0_1_2 (broadcastInDim S1x64x256 ![1, 2] bcast_S64x256_S1x64x256_1_2 b)))

def argArr (D : FVec F S3136x64x256 .f32) : IVec S3136x64 32 := fun j =>
  (Host.argReduce reducer_argmin_f32_i32 D (iotaInDim S3136x64x256 32 2) (constant S_ .f32 0x7F800000#32) (constantI S_ 32 0#32)
    reducesTo_S3136x64x256_S3136x64_d2 h_S_ j).2

/-- The numbers as the take reads them: transposed, 256 added to a negative one, a unit axis appended. -/
def rowIdx (g : IVec S3136x64 32) : IVec S64x3136x1 32 :=
  let t := transpose S64x3136 [1, 0] g transposes_S3136x64_S64x3136_1_0
  shapeCast S64x3136x1 (select (cmpi .slt t (broadcastInDim S64x3136 ![] bcast_S_S64x3136 (constantI S_ 32 0#32)))
    (addi t (broadcastInDim S64x3136 ![] bcast_S_S64x3136 (constantI S_ 32 256#32))) t) shapeCasts_S64x3136_S64x3136x1

/-- Which numbers are rows of the table. -/
def inRange (v : IVec S64x3136x1 32) : IVec S64x3136 1 :=
  Host.reduce IntOp.andi
    (andi (cmpi .sge v (broadcastInDim S64x3136x1 ![] bcast_S_S64x3136x1 (constantI S_ 32 0#32)))
      (cmpi .sle v (broadcastInDim S64x3136x1 ![0, 1, 2] bcast_S1x1x1_S64x3136x1_0_1_2 (broadcastInDim S1x1x1 ![2] bcast_S1_S1x1x1_2 (constantI S1 32 255#32)))))
    (constantI S_ 1 1#1) reducesTo_S64x3136x1_S64x3136_d2 h_S_

def takeArr (b : FVec F S64x256 .f32) (g : IVec S3136x64 32) : FVec F S3136x64 .f32 :=
  transpose S3136x64 [1, 0]
    (select (inRange (rowIdx g)) (Host.gather gather_S64x256_S64x3136x1_S64x3136_n_1_0_0_1_2_11 b (rowIdx g))
      (broadcastInDim S64x3136 ![] bcast_S_S64x3136 (constant S_ .f32 0x7FC00000#32))) transposes_S64x3136_S3136x64_1_0

def meanSq (x q : FVec F S3136x64 .f32) : FVec F S_ .f32 :=
  Host.divf (Host.reduceAdd (mulf (subf x q) (subf x q)) (constant S_ .f32 0x00000000#32) reducesTo_S3136x64_S_d0_1 h_S_) (constant S_ .f32 0x48440000#32)

def lossOf (x q : FVec F S3136x64 .f32) : FVec F S_ .f32 := addf (meanSq x q) (mulf (constant S_ .f32 0x3F800000#32) (meanSq x q))

def outOf (z : FVec F S4x4x196x64 .f32) (q : FVec F S3136x64 .f32) : FVec F S4x4x196x64 .f32 :=
  addf z (subf (shapeCast S4x4x196x64 q shapeCasts_S3136x64_S4x4x196x64) z)

def idxOf (g : IVec S3136x64 32) : IVec S4x4x196x64 32 := shapeCast S4x4x196x64 g shapeCasts_S3136x64_S4x4x196x64

/-! ## What each stretch leaves -/

variable (V : Valuation τ sig (Elt F))

theorem dist_flat : after opsDist V (Proc.devRef .tc main_v0) = flat (V (Proc.devRef .tc main_arg0)) := by unfold opsDist; after_results; rfl
theorem dist_dist : after opsDist V (Proc.devRef .tc main_v6) = distArr (V (Proc.devRef .tc main_arg0)) (V (Proc.devRef .tc main_arg1)) := by
  unfold opsDist; after_results; rfl
theorem arg_arg : after opsArg V (Proc.devRef .tc main_v7) = argArr (V (Proc.devRef .tc main_v6)) := by unfold opsArg; after_results; rfl
theorem take_take : after opsTake V (Proc.devRef .tc main_v10) = takeArr (V (Proc.devRef .tc main_arg1)) (V (Proc.devRef .tc main_v7)) := by
  unfold opsTake; after_results; rfl
theorem loss_loss : after opsLoss V (Proc.devRef .tc main_v20) = lossOf (V (Proc.devRef .tc main_v0)) (V (Proc.devRef .tc main_v10)) := by
  unfold opsLoss; after_results; rfl
theorem out_val : after opsOut V (Proc.devRef .tc main_v24) = outOf (V (Proc.devRef .tc main_arg0)) (V (Proc.devRef .tc main_v10)) := by
  unfold opsOut; after_results; rfl
theorem out_idx : after opsOut V (Proc.devRef .tc main_v22) = idxOf (V (Proc.devRef .tc main_v7)) := by unfold opsOut; after_results; rfl

/-- A line leaves alone every buffer that none of its operations writes. -/
theorem after_keep (r : DevRef τ sig) : ∀ (l : List (HloOp τ sig (Elt F))) (V : Valuation τ sig (Elt F)), (l.Forall fun op => r ∉ op.writes) → after l V r = V r
  | [], _, _ => rfl
  | op :: l, V, h => by
    rw [List.forall_cons] at h
    rw [after_cons, after_keep r l _ h.2, op.result_of_not_mem V h.1]

theorem after_append : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_append l₁ l₂, after_cons]

theorem dist_arg0 : after opsDist V (Proc.devRef .tc main_arg0) = V (Proc.devRef .tc main_arg0) := by unfold opsDist; after_results
theorem dist_arg1 : after opsDist V (Proc.devRef .tc main_arg1) = V (Proc.devRef .tc main_arg1) := by unfold opsDist; after_results
theorem arg_arg0 : after opsArg V (Proc.devRef .tc main_arg0) = V (Proc.devRef .tc main_arg0) := by unfold opsArg; after_results
theorem arg_arg1 : after opsArg V (Proc.devRef .tc main_arg1) = V (Proc.devRef .tc main_arg1) := by unfold opsArg; after_results
theorem arg_v0 : after opsArg V (Proc.devRef .tc main_v0) = V (Proc.devRef .tc main_v0) := by unfold opsArg; after_results
theorem take_arg0 : after opsTake V (Proc.devRef .tc main_arg0) = V (Proc.devRef .tc main_arg0) := by unfold opsTake; after_results
theorem take_arg1 : after opsTake V (Proc.devRef .tc main_arg1) = V (Proc.devRef .tc main_arg1) := by unfold opsTake; after_results
theorem take_v0 : after opsTake V (Proc.devRef .tc main_v0) = V (Proc.devRef .tc main_v0) := by unfold opsTake; after_results
theorem take_v7 : after opsTake V (Proc.devRef .tc main_v7) = V (Proc.devRef .tc main_v7) := by unfold opsTake; after_results
theorem loss_arg0 : after opsLoss V (Proc.devRef .tc main_arg0) = V (Proc.devRef .tc main_arg0) := by unfold opsLoss; after_results
theorem loss_arg1 : after opsLoss V (Proc.devRef .tc main_arg1) = V (Proc.devRef .tc main_arg1) := by unfold opsLoss; after_results
theorem loss_v10 : after opsLoss V (Proc.devRef .tc main_v10) = V (Proc.devRef .tc main_v10) := by unfold opsLoss; after_results
theorem loss_v7 : after opsLoss V (Proc.devRef .tc main_v7) = V (Proc.devRef .tc main_v7) := by unfold opsLoss; after_results
theorem out_arg0 : after opsOut V (Proc.devRef .tc main_arg0) = V (Proc.devRef .tc main_arg0) := by unfold opsOut; after_results
theorem out_arg1 : after opsOut V (Proc.devRef .tc main_arg1) = V (Proc.devRef .tc main_arg1) := by unfold opsOut; after_results
theorem out_v20 : after opsOut V (Proc.devRef .tc main_v20) = V (Proc.devRef .tc main_v20) := by unfold opsOut; after_results

/-! ## What the program leaves -/

theorem ops_val : after ops V (Proc.devRef .tc main_v24)
    = outOf (V (Proc.devRef .tc main_arg0)) (takeArr (V (Proc.devRef .tc main_arg1)) (argArr (distArr (V (Proc.devRef .tc main_arg0)) (V (Proc.devRef .tc main_arg1))))) := by
  rw [ops, after_append, after_append, after_append, after_append, out_val, loss_arg0, loss_v10, take_arg0, take_take, arg_arg0, arg_arg1, arg_arg,
    dist_arg0, dist_arg1, dist_dist]
theorem ops_idx : after ops V (Proc.devRef .tc main_v22)
    = idxOf (argArr (distArr (V (Proc.devRef .tc main_arg0)) (V (Proc.devRef .tc main_arg1)))) := by
  rw [ops, after_append, after_append, after_append, after_append, out_idx, loss_v7, take_v7, arg_arg, dist_dist]
theorem ops_loss : after ops V (Proc.devRef .tc main_v20)
    = lossOf (flat (V (Proc.devRef .tc main_arg0)))
      (takeArr (V (Proc.devRef .tc main_arg1)) (argArr (distArr (V (Proc.devRef .tc main_arg0)) (V (Proc.devRef .tc main_arg1))))) := by
  rw [ops, after_append, after_append, after_append, after_append, out_v20, loss_loss, take_v0, take_take, arg_v0, arg_arg1, arg_arg,
    dist_flat, dist_arg1, dist_dist]
theorem ops_arg0 : after ops V (Proc.devRef .tc main_arg0) = V (Proc.devRef .tc main_arg0) := by
  rw [ops, after_append, after_append, after_append, after_append, out_arg0, loss_arg0, take_arg0, arg_arg0, dist_arg0]
theorem ops_arg1 : after ops V (Proc.devRef .tc main_arg1) = V (Proc.devRef .tc main_arg1) := by
  rw [ops, after_append, after_append, after_append, after_append, out_arg1, loss_arg1, take_arg1, arg_arg1, dist_arg1]

/-! ## The run -/

theorem run_ref (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 :=
  (θ_run _ _ _).mono (fun r h => ⟨h, sem_eq_zero_of_no_sems (by decide) r.2⟩)
    (run_seq scopedRefs_eq scopedSems_eq defs main (fun _ => ops) main_eq (fun _ => ops_sub) m ρ fun _ => ops_fresh)

end Cert.Proof.FsqRef

end
-- ==== Proof.Frames.lean ====
/-
  The claims that say nothing of values: each program runs, keeps its arguments and leaves every semaphore at zero, and
  the named constant is the rounding of the real it names.
-/
module

public import proofs.«01_k».proof.Proof.MainRun
public import proofs.«01_k».proof.Proof.RefOps
public import proofs.«01_k».proof.Proof.Gen.Kernel

@[expose] public section

noncomputable section

namespace Cert.Proof.Fsq

open Idealize.ShloMosaic Idealize.SL.Sem

instance bitsNamed : Named Bits where
  named _ _ {φ} w := Scalar.ofBits φ w

/-! ## The program as compiled: it differs from its idealisation in the spelling of one constant, which at machine floats is the same word -/

open Cert.Kernel.Gen Cert.KernelIdeal.Gen

theorem bodies_eq : Cert.Kernel.defs₀ (F := Bits) = Cert.KernelIdeal.defs₀ (F := Bits) := by
  funext p l a
  match p, l, a with
  | .scVector _ _, 0, _ => rfl
  | .scVector _ _, 1, _ => rfl
  | .tc, 0, _ => rfl
  | .tc, 1, (_, _) => rfl
  | .scScalar _, 0, _ => rfl
  | .scScalar _, 1, _ => rfl
theorem defs_eq : Cert.Kernel.defs (F := Bits) = Cert.KernelIdeal.defs (F := Bits) :=
  congrArg (fun D => Cert.KernelIdeal.sc.defs (Pipeline.defs Cert.KernelIdeal.pcfgs D)) bodies_eq
theorem threads_eq : Cert.Kernel.threads (F := Bits) = Cert.KernelIdeal.threads (F := Bits) := rfl

theorem frame_kernel : Cert.quiescent_Kernel := by
  intro m ρ _
  rw [defs_eq, threads_eq]
  exact (θ_run Cert.KernelIdeal.defs _ _).mono (fun _ h => ⟨fun c => ⟨(h.1 c).1, (h.1 c).2.1⟩, h.2⟩) (run_main (F := Bits) m ρ)

/-! ## The idealisation and the reference -/

theorem run_args (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)) ∧ r.2.sem = fun _ => 0) :=
  (θ_run _ _ _).mono (fun _ h => ⟨fun c => ⟨(h.1 c).1, (h.1 c).2.1⟩, h.2⟩) (run_main (F := Ideal) m ρ)

theorem frame_kernelIdeal : Cert.quiescent_KernelIdeal := fun m ρ _ => run_args m ρ
theorem frame_kernelIdeal_pre [Cert.Pre_uniform_grid.Facts] : Cert.quiescent_KernelIdeal_pre_uniform_grid := fun m ρ _ => run_args m ρ

theorem ref_args (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
      r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) ∧ r.2.sem = fun _ => 0) :=
  (θ_run _ _ _).mono (fun _ h => ⟨fun c => ⟨(h.1 c _).trans (FsqRef.ops_arg0 _), (h.1 c _).trans (FsqRef.ops_arg1 _)⟩, h.2⟩) (FsqRef.run_ref m ρ)

theorem frame_reference : Cert.quiescent_ReferenceIdeal := fun m ρ _ => ref_args m ρ
theorem frame_reference_pre [Cert.Pre_uniform_grid.Facts] : Cert.quiescent_ReferenceIdeal_pre_uniform_grid := fun m ρ _ => ref_args m ρ

theorem preserves : Cert.preserves_Kernel_KernelIdeal :=
  IdealRules.named_const.statement Cert.KernelIdeal.κ "loss_scale" .f32 0x37272F05#32 ((1 / 100352 : ℝ) : EReal) rfl

end Cert.Proof.Fsq

end
-- ==== Proof.Nearest.lean ====
/-
  The nearest bin, over the reals. A row of bins lies on the grid if bin `i`, brought to the grid's scale, is less than half a step from `i`.
  Then the nearest bin to any number below +∞ is the guessed one or its right neighbour, and of all bins at that
  distance it is the first.
-/
module

public import proofs.«01_k».proof.Proof.Quant
public import Idealize.ShloMosaic.PureOps.Ideal.Laws

@[expose] public section

noncomputable section

namespace Cert.Proof.Fsq

open Idealize.ShloMosaic

/-! ## The constants -/

theorem ofBits_scale : Ideal.ofBits .f32 0x42FF0000#32 = ((127.5 : ℝ) : EReal) := by simp [Ideal.ofBits, Ideal.ieee, -EReal.coe_mul]; norm_num

/-! ## The guess -/

/-- A whole number in a word's range, clipped to `0 … 254` by the word operations. -/
theorem clip_toNat (c : ℤ) (h1 : -2147483648 ≤ c) (h2 : c ≤ 2147483647) :
    ((IntOp.minsi 254#32 (IntOp.maxsi 0#32 (BitVec.ofInt 32 c))).toNat : ℤ) = min 254 (max 0 c) := by
  have hc : (BitVec.ofInt 32 c).toInt = c := by
    rw [BitVec.toInt_ofInt]; exact Int.bmod_eq_of_le (by omega) (by omega)
  unfold IntOp.minsi IntOp.maxsi
  have e0 : (0#32 : BitVec 32).toInt = 0 := rfl
  have e254 : (254#32 : BitVec 32).toInt = 254 := rfl
  by_cases hn : c < 0
  · have : (BitVec.ofInt 32 c).slt 0#32 = true := by rw [BitVec.slt_iff_toInt_lt, hc, e0]; exact hn
    rw [if_pos this]
    have h3 : ((254#32 : BitVec 32).slt 0#32) = false := rfl
    rw [h3]; simp; omega
  · have : (BitVec.ofInt 32 c).slt 0#32 ≠ true := by rw [Ne, BitVec.slt_iff_toInt_lt, hc, e0]; exact hn
    rw [if_neg this]
    have hN : ((BitVec.ofInt 32 c).toNat : ℤ) = c := by
      have := BitVec.toInt_eq_toNat_cond (BitVec.ofInt 32 c)
      have := (BitVec.ofInt 32 c).isLt
      split_ifs at * <;> omega
    by_cases hb : 254 < c
    · have : (254#32 : BitVec 32).slt (BitVec.ofInt 32 c) = true := by rw [BitVec.slt_iff_toInt_lt, hc, e254]; exact hb
      rw [if_pos this]; simp; omega
    · have : (254#32 : BitVec 32).slt (BitVec.ofInt 32 c) ≠ true := by rw [Ne, BitVec.slt_iff_toInt_lt, hc, e254]; exact hb
      rw [if_neg this, hN]; omega

/-- The guess at a real number: the grid cell below it, within the grid. -/
theorem guess_real (z : ℝ) :
    ((guess (F := Ideal) (z : EReal)).toNat = 0 ∨ ((guess (F := Ideal) (z : EReal)).toNat : ℝ) ≤ z * 127.5 + 127.5)
      ∧ ((guess (F := Ideal) (z : EReal)).toNat = 254 ∨ z * 127.5 + 127.5 < ((guess (F := Ideal) (z : EReal)).toNat : ℝ) + 1) := by
  set t : ℝ := z * 127.5 + 127.5 with ht
  have hg : guess (F := Ideal) (z : EReal)
      = IntOp.minsi 254#32 (IntOp.maxsi 0#32 (BitVec.ofInt 32 (max (-2147483648) (min 2147483647 (if 0 ≤ t then ⌊t⌋ else ⌈t⌉))))) := by
    unfold guess
    show IntOp.minsi 254#32 (IntOp.maxsi 0#32 (Ideal.fptosi 32 ((z : EReal) * Ideal.ofBits .f32 0x42FF0000#32 + Ideal.ofBits .f32 0x42FF0000#32))) = _
    rw [ofBits_scale, ← EReal.coe_mul, ← EReal.coe_add, ← ht]
    rfl
  have hk := clip_toNat (max (-2147483648) (min 2147483647 (if 0 ≤ t then ⌊t⌋ else ⌈t⌉))) (by omega) (by omega)
  rw [← hg] at hk
  generalize (guess (F := Ideal) (z : EReal)).toNat = k at hk ⊢
  by_cases h0 : 0 ≤ t
  · rw [if_pos h0] at hk
    have hf : 0 ≤ ⌊t⌋ := Int.floor_nonneg.mpr h0
    have hl := Int.floor_le t
    have hu := Int.lt_floor_add_one t
    by_cases hb : ⌊t⌋ ≤ 254
    · have e : (k : ℤ) = ⌊t⌋ := by omega
      have e' : (k : ℝ) = (⌊t⌋ : ℝ) := by exact_mod_cast e
      exact ⟨.inr (by rw [e']; exact hl), .inr (by rw [e']; exact hu)⟩
    · have e : k = 254 := by omega
      have e' : ((254 : ℤ) : ℝ) ≤ (⌊t⌋ : ℝ) := by exact_mod_cast (by omega : (254 : ℤ) ≤ ⌊t⌋)
      subst e
      exact ⟨.inr (by push_cast at e' ⊢; linarith), .inl rfl⟩
  · rw [if_neg h0] at hk
    have hc : ⌈t⌉ ≤ 0 := Int.ceil_le.mpr (by push_cast; linarith)
    have e : k = 0 := by omega
    subst e
    exact ⟨.inl rfl, .inr (by push_cast; linarith)⟩

/-- The guess at −∞. -/
theorem guess_bot : guess (F := Ideal) (⊥ : EReal) = 0#32 := by
  unfold guess
  show IntOp.minsi 254#32 (IntOp.maxsi 0#32 (Ideal.fptosi 32 ((⊥ : EReal) * Ideal.ofBits .f32 0x42FF0000#32 + Ideal.ofBits .f32 0x42FF0000#32))) = _
  rw [ofBits_scale, EReal.bot_mul_coe_of_pos (by norm_num), EReal.bot_add]
  rfl

/-! ## The nearest bin -/

/-- The row lies on the grid. -/
def OnGrid (u : Fin 256 → ℝ) : Prop := ∀ i : Fin 256, |u i * 127.5 + 127.5 - (i.val : ℝ)| < 1 / 2

/-- `j` is the first index at which `f` is least. -/
def FirstMin {ι : Type} [LT ι] (f : ι → EReal) (j : ι) : Prop := (∀ i, f j ≤ f i) ∧ ∀ i, i < j → f j < f i

/-- Of a real number: every bin left of the guess is farther than it, every bin right of its neighbour farther than the neighbour. -/
theorem far_left (u : Fin 256 → ℝ) (hu : OnGrid u) (z : ℝ) (k : Fin 256) (hk : k.val = 0 ∨ (k.val : ℝ) ≤ z * 127.5 + 127.5) (i : Fin 256) (hi : i < k) :
    |z - u k| < |z - u i| := by
  have h1 := abs_lt.mp (hu i)
  have h2 := abs_lt.mp (hu k)
  have hi' : (i.val : ℝ) + 1 ≤ k.val := by exact_mod_cast hi
  have h3 : (k.val : ℝ) ≤ z * 127.5 + 127.5 := by
    rcases hk with h | h
    · exact absurd hi (by rw [Fin.lt_def]; omega)
    · exact h
  have hlt : u i < u k := by linarith [h1.2, h2.1]
  refine lt_of_lt_of_le ?_ (le_abs_self _)
  rw [abs_lt]
  constructor <;> linarith [h1.2, h2.1, h2.2]

theorem far_right (u : Fin 256 → ℝ) (hu : OnGrid u) (z : ℝ) (k : Fin 256) (hk : z * 127.5 + 127.5 < (k.val : ℝ)) (i : Fin 256) (hi : k < i) :
    |z - u k| < |z - u i| := by
  have h1 := abs_lt.mp (hu i)
  have h2 := abs_lt.mp (hu k)
  have hi' : (k.val : ℝ) + 1 ≤ i.val := by exact_mod_cast hi
  refine lt_of_lt_of_le ?_ (neg_le_abs _)
  rw [abs_lt]
  constructor <;> linarith [h1.1, h2.1, h2.2]

end Cert.Proof.Fsq

end
-- ==== Proof.ArgMin.lean ====
/-
  The reference's search for the nearest bin: a fold over one row of distances, from (+∞, 0), that keeps the smaller value
  and, of equal values, the smaller number. It ends at the first least distance.
-/
module

public import proofs.«01_k».proof.Proof.Nearest
public import proofs.«01_k».proof.Proof.RefOps
public import Idealize.ShloMosaic.Lib.ValueIdxCore

@[expose] public section

noncomputable section

namespace Cert.Proof.FsqRef

open Cert.ReferenceIdeal Cert.ReferenceIdeal.Gen
open Idealize.ShloMosaic Idealize.ShloMosaic.ValueIdx
open Cert.Proof.Fsq (FirstMin)

/-! ## One step of the fold -/

/-- The step, of two pairs: the smaller value, and its number. -/
theorem step_lt {a b : EReal × BitVec 32} (h : a.1 < b.1) : reducer_argmin_f32_i32 (F := Ideal) a b = a := by
  simp [reducer_argmin_f32_i32, Ideal.cmpf_def, Ideal.cmp, Scalar.select, IntOp.ori, IntOp.andi, IntOp.cmpi, h, h.ne]
theorem step_gt {a b : EReal × BitVec 32} (h : b.1 < a.1) : reducer_argmin_f32_i32 (F := Ideal) a b = b := by
  have h1 : ¬ a.1 < b.1 := not_lt.2 h.le
  have h2 : ¬ a.1 = b.1 := fun e => absurd (e ▸ h) (lt_irrefl _)
  simp [reducer_argmin_f32_i32, Ideal.cmpf_def, Ideal.cmp, Scalar.select, IntOp.ori, IntOp.andi, h1, h2]
theorem step_eq {a b : EReal × BitVec 32} (h : a.1 = b.1) (hn : a.2.slt b.2 = true) : reducer_argmin_f32_i32 (F := Ideal) a b = a := by
  obtain ⟨x, u⟩ := a; obtain ⟨y, v⟩ := b; subst h
  simp at hn
  simp [reducer_argmin_f32_i32, Ideal.cmpf_def, Ideal.cmp, Scalar.select, IntOp.ori, IntOp.andi, IntOp.cmpi, hn]
theorem step_top {w : BitVec 32} : reducer_argmin_f32_i32 (F := Ideal) ((⊤ : EReal), w) ((⊤ : EReal), w) = ((⊤ : EReal), w) := by
  simp [reducer_argmin_f32_i32, Ideal.cmpf_def, Ideal.cmp, Scalar.select, IntOp.ori, IntOp.andi, IntOp.cmpi]

/-! ## The fold -/

section
variable {ι : Type} (d : ι → EReal) (w : ι → BitVec 32) (j : ι)

/-- Past the first least value nothing changes. -/
theorem fold_after (l : List ι) (h : ∀ i ∈ l, d j ≤ d i ∧ (w j).slt (w i) = true) :
    (l.map fun i => (d i, w i)).foldl (reducer_argmin_f32_i32 (F := Ideal)) (d j, w j) = (d j, w j) := by
  induction l with
  | nil => rfl
  | cons i l ih =>
    rw [List.map_cons, List.foldl_cons]
    obtain ⟨h1, h2⟩ := h i (by simp)
    rw [show reducer_argmin_f32_i32 (F := Ideal) (d j, w j) (d i, w i) = (d j, w j) from
      (lt_or_eq_of_le h1).elim (fun h => step_lt h) (fun h => step_eq h h2)]
    exact ih fun i hi => h i (by simp [hi])

/-- Before it the value kept is larger. -/
theorem fold_before (l : List ι) (h : ∀ i ∈ l, d j < d i) (a : EReal × BitVec 32) (ha : d j < a.1) :
    d j < ((l.map fun i => (d i, w i)).foldl (reducer_argmin_f32_i32 (F := Ideal)) a).1 := by
  induction l generalizing a with
  | nil => exact ha
  | cons i l ih =>
    rw [List.map_cons, List.foldl_cons]
    refine ih (fun i hi => h i (by simp [hi])) _ ?_
    rcases lt_trichotomy a.1 (d i) with h1 | h1 | h1
    · rw [step_lt h1]; exact ha
    · show d j < Scalar.select _ a.1 (d i)
      rw [← h1]
      unfold Scalar.select
      split_ifs <;> exact ha
    · rw [step_gt h1]; exact h i (by simp)

/-- Over a list in the numbers' order the fold from (+∞, 0) ends at the first least value. -/
theorem fold_first (l : List ι) (hl : l.Pairwise fun i i' => (w i).slt (w i') = true) (hj : j ∈ l) (hmin : ∀ i ∈ l, d j ≤ d i)
    (hfirst : ∀ i ∈ l, (w i).slt (w j) = true → d j < d i) (h0 : d j = ⊤ → w j = 0#32 ∧ ∀ i ∈ l, ¬ (w i).slt (w j) = true) :
    (l.map fun i => (d i, w i)).foldl (reducer_argmin_f32_i32 (F := Ideal)) ((⊤ : EReal), 0#32) = (d j, w j) := by
  obtain ⟨l1, l2, rfl⟩ := List.append_of_mem hj
  obtain ⟨hl1, hl2, hl12⟩ := List.pairwise_append.1 hl
  have hb : ∀ i ∈ l1, (w i).slt (w j) = true := fun i hi => hl12 i hi j (by simp)
  have hafter := fold_after d w j l2 fun i hi => ⟨hmin i (by simp [hi]), (List.pairwise_cons.1 hl2).1 i hi⟩
  rw [List.map_append, List.foldl_append, List.map_cons, List.foldl_cons]
  by_cases ht : d j = ⊤
  · obtain ⟨hw, hn⟩ := h0 ht
    have : l1 = [] := List.eq_nil_iff_forall_not_mem.2 fun i hi => hn i (by simp [hi]) (hb i hi)
    subst this
    rw [List.map_nil, List.foldl_nil]
    rw [hw, ht] at hafter ⊢
    rw [step_top, hafter]
  · have h1 := fold_before d w j l1 (fun i hi => hfirst i (by simp [hi]) (hb i hi)) ((⊤ : EReal), 0#32) (lt_of_le_of_ne le_top ht)
    rw [step_gt h1, hafter]
end

/-! ## A row's nearest bin -/

theorem slt_ofNat {a b : ℕ} (ha : a < 256) (hb : b < 256) : (BitVec.ofNat 32 a).slt (BitVec.ofNat 32 b) = true ↔ a < b := by
  have e : ∀ n : ℕ, n < 256 → (BitVec.ofNat 32 n).toInt = n := fun n hn => by
    rw [show BitVec.ofNat 32 n = BitVec.ofInt 32 n from rfl, BitVec.toInt_ofInt]; exact Int.bmod_eq_of_le (by omega) (by omega)
  rw [BitVec.slt_iff_toInt_lt, e a ha, e b hb]; omega

/-- The search over the last axis of an array of any extents, at a row: the number of the row's first least value. -/
theorem row_argmin {n0 n1 n2 : ℕ} {u : Shape} (hn : n2 ≤ 256) (h : (⟨3, ![n0, n1, n2]⟩ : Shape).ReducesTo [2] ⟨2, ![n0, n1]⟩)
    (D : FVec Ideal ⟨3, ![n0, n1, n2]⟩ .f32) (r : Fin n0) (c : Fin n1) (k : Fin n2)
    (hk : FirstMin (fun i : Fin n2 => (D (ix3 r c i) : EReal)) k) (h0 : (D (ix3 r c k) : EReal) = ⊤ → k.val = 0)
    (ix : FVec Ideal u .f32) (iy : IVec u 32) (hu : 0 < u.numel) (hx : ∀ q, (ix q : EReal) = ⊤) (hy : ∀ q, iy q = 0#32)
    (g : IVec ⟨2, ![n0, n1]⟩ 32) (hg : g = fun j => (Host.argReduce (reducer_argmin_f32_i32 (F := Ideal)) D (iotaInDim ⟨3, ![n0, n1, n2]⟩ 32 2) ix iy h hu j).2) :
    g (ix2 r c) = BitVec.ofNat 32 k.val := by
  subst hg
  show (Host.argReduce (reducer_argmin_f32_i32 (F := Ideal)) D (iotaInDim ⟨3, ![n0, n1, n2]⟩ 32 2) ix iy h hu (ix2 r c)).2 = _
  rw [Ideal.argReduce_eq_reduce2, Host.reduce2_eq_foldl_fiber, hx, hy]
  unfold Host.argReduceFiber
  generalize hs : (⟨3, ![n0, n1, n2]⟩ : Shape).rowMajor = R
  have hmem : ∀ n, h.drop (R.symm n) = ix2 r c → ∃ i : Fin n2, R.symm n = ix3 r c i := by
    intro n hn
    have e0 := congrArg Fin.val (congrFun hn 0)
    have e1 := congrArg Fin.val (congrFun hn 1)
    rw [Shape.ReducesTo.drop_apply_val_of_eq _ _ 0 0 (hb := Nat.zero_lt_two) (hc := rfl)] at e0
    rw [Shape.ReducesTo.drop_apply_val_of_eq _ _ 1 1 (hb := Nat.one_lt_two) (hc := rfl)] at e1
    refine ⟨R.symm n 2, funext fun a => ?_⟩
    match a with
    | ⟨0, _⟩ => exact Fin.ext e0
    | ⟨1, _⟩ => exact Fin.ext e1
    | ⟨2, _⟩ => rfl
  have hmem' : ∀ n ∈ (List.finRange (⟨3, ![n0, n1, n2]⟩ : Shape).numel).filter fun n => h.drop (R.symm n) = ix2 r c,
      ∃ i : Fin n2, R.symm n = ix3 r c i := fun n hn => hmem n (by simpa using (List.mem_filter.1 hn).2)
  have hval : ∀ i : Fin n2, ((ix3 r c i : (⟨3, ![n0, n1, n2]⟩ : Shape).Idx) 2).val = i.val := fun _ => rfl
  have hlt : ∀ i : Fin n2, i.val < 256 := fun i => lt_of_lt_of_le i.isLt hn
  have hpair : ((List.finRange (⟨3, ![n0, n1, n2]⟩ : Shape).numel).filter fun n => h.drop (R.symm n) = ix2 r c).Pairwise
      fun n n' => (BitVec.ofNat 32 (R.symm n 2).val).slt (BitVec.ofNat 32 (R.symm n' 2).val) = true := by
    have h1 : ((List.finRange (⟨3, ![n0, n1, n2]⟩ : Shape).numel).filter fun n => h.drop (R.symm n) = ix2 r c).Pairwise (· < ·) :=
      List.Pairwise.filter _ (List.pairwise_lt_finRange _)
    refine h1.imp_of_mem fun {n n'} hn hn' hl => ?_
    obtain ⟨i, m⟩ := hmem' n hn
    obtain ⟨i', m'⟩ := hmem' n' hn'
    have e : n = R (ix3 r c i) := by rw [← m]; exact (Equiv.apply_symm_apply _ _).symm
    have e' : n' = R (ix3 r c i') := by rw [← m']; exact (Equiv.apply_symm_apply _ _).symm
    have v : n.val = (r.val * n1 + c.val) * n2 + i.val := by rw [e, ← hs]; exact Shape.rowMajor_val_three _
    have v' : n'.val = (r.val * n1 + c.val) * n2 + i'.val := by rw [e', ← hs]; exact Shape.rowMajor_val_three _
    rw [m, m', hval, hval, slt_ofNat (hlt _) (hlt _)]
    have hl' : n.val < n'.val := hl
    rw [v, v'] at hl'
    exact Nat.lt_of_add_lt_add_left hl'
  have hj : R (ix3 r c k) ∈ (List.finRange (⟨3, ![n0, n1, n2]⟩ : Shape).numel).filter fun n => h.drop (R.symm n) = ix2 r c := by
    rw [List.mem_filter]
    refine ⟨List.mem_finRange _, ?_⟩
    simp only [decide_eq_true_eq, Equiv.symm_apply_apply]
    have e0 : (h.drop (ix3 r c k) 0).val = r.val := Shape.ReducesTo.drop_apply_val_of_eq h (ix3 r c k) 0 0 Nat.zero_lt_two rfl
    have e1 : (h.drop (ix3 r c k) 1).val = c.val := Shape.ReducesTo.drop_apply_val_of_eq h (ix3 r c k) 1 1 Nat.one_lt_two rfl
    funext a
    match a with
    | ⟨0, _⟩ => exact Fin.ext e0
    | ⟨1, _⟩ => exact Fin.ext e1
  have hke : R.symm (R (ix3 r c k)) = ix3 r c k := Equiv.symm_apply_apply _ _
  have key := fold_first (fun n => (D (R.symm n) : EReal)) (fun n => BitVec.ofNat 32 (R.symm n 2).val) (R (ix3 r c k)) _ hpair hj ?_ ?_ ?_
  · rw [hke] at key; exact congrArg Prod.snd key
  · intro n hn
    obtain ⟨i, m⟩ := hmem' n hn
    rw [hke, m]; exact hk.1 _
  · intro n hn hl
    obtain ⟨i, m⟩ := hmem' n hn
    rw [hke] at hl ⊢
    rw [m] at hl ⊢
    rw [hval, hval, slt_ofNat (hlt _) (hlt _)] at hl
    exact hk.2 _ hl
  · rw [hke]
    intro ht
    have e := h0 ht
    refine ⟨congrArg (BitVec.ofNat 32) e, fun n hn hl => ?_⟩
    obtain ⟨i, m⟩ := hmem' n hn
    rw [m, hval, hval, slt_ofNat (hlt _) (hlt _)] at hl
    omega

theorem ofBits_top : Ideal.ofBits .f32 0x7F800000#32 = (⊤ : EReal) := by simp [Ideal.ofBits, Ideal.ieee]

/-- The array of nearest bins at an element: the number of the first least distance in that element's row. -/
theorem argArr_apply (D : FVec Ideal S3136x64x256 .f32) (r : Fin 3136) (c : Fin 64) (k : Fin 256)
    (hk : FirstMin (fun i : Fin 256 => (D (ix3 r c i) : EReal)) k) (h0 : (D (ix3 r c k) : EReal) = ⊤ → k.val = 0) :
    argArr (F := Ideal) D (ix2 r c) = BitVec.ofNat 32 k.val :=
  row_argmin le_rfl reducesTo_S3136x64x256_S3136x64_d2 D r c k hk h0 (constant S_ .f32 0x7F800000#32) (constantI S_ 32 0#32) h_S_
    (fun _ => ofBits_top) (fun _ => rfl) (argArr D) rfl

end Cert.Proof.FsqRef

end
-- ==== Proof.RefElem.lean ====
/-
  The reference read at one element: the distances of an element from the bins of its row, and the bin taken by a
  number that is in range.
-/
module

public import proofs.«01_k».proof.Proof.ArgMin
public import Idealize.ShloMosaic.Lib.Pipeline.Value

@[expose] public section

noncomputable section

namespace Cert.Proof.FsqRef

open Cert.ReferenceIdeal Cert.ReferenceIdeal.Gen
open Idealize.ShloMosaic Idealize.ShloMosaic.ValueIdx
open Cert.Proof.Fsq (FirstMin)

variable {F : FTy → Type} [FloatOps F] [Named F]

/-! ## The distances -/

theorem distArr_apply (z : FVec F S4x4x196x64 .f32) (b : FVec F S64x256 .f32) (r : Fin 3136) (c : Fin 64) (i : Fin 256) :
    distArr z b (ix3 r c i) = FloatOps.hostAbsf (FloatOps.subf (flat z (ix2 r c)) (b (ix2 c i))) := by
  have e1 : broadcastInDim S3136x64x256 ![0, 1, 2] bcast_S3136x64x1_S3136x64x256_0_1_2
      (broadcastInDim S3136x64x1 ![0, 1] bcast_S3136x64_S3136x64x1_0_1 (flat z)) (ix3 r c i) = flat z (ix2 r c) := by
    rw [broadcastInDim_apply _ _ _ (ix3 r c i) (ix3 r c (0 : Fin 1)) (fun a => by
        match a with | ⟨0, _⟩ => rfl | ⟨1, _⟩ => rfl | ⟨2, _⟩ => rfl),
      broadcastInDim_apply _ _ _ (ix3 r c (0 : Fin 1)) (ix2 r c) (fun a => by match a with | ⟨0, _⟩ => rfl | ⟨1, _⟩ => rfl)]
  have e2 : broadcastInDim S3136x64x256 ![0, 1, 2] bcast_S1x64x256_S3136x64x256_0_1_2
      (broadcastInDim S1x64x256 ![1, 2] bcast_S64x256_S1x64x256_1_2 b) (ix3 r c i) = b (ix2 c i) := by
    rw [broadcastInDim_apply _ _ _ (ix3 r c i) (ix3 (0 : Fin 1) c i) (fun a => by
        match a with | ⟨0, _⟩ => rfl | ⟨1, _⟩ => rfl | ⟨2, _⟩ => rfl),
      broadcastInDim_apply _ _ _ (ix3 (0 : Fin 1) c i) (ix2 c i) (fun a => by match a with | ⟨0, _⟩ => rfl | ⟨1, _⟩ => rfl)]
  unfold distArr
  show FloatOps.hostAbsf (FloatOps.subf _ _) = _
  rw [e1, e2]

/-! ## The numbers in range -/

/-- A conjunction over ones is one. -/
theorem reduce_ones {s t u : Shape} {axes : List (Fin s.rank)} (x : IVec s 1) (init : IVec u 1) (h : s.ReducesTo axes t) (hu : 0 < u.numel)
    (j : t.Idx) (hx : ∀ i, x i = 1#1) (hi : ∀ q, init q = 1#1) : Host.reduce IntOp.andi x init h hu j = 1#1 := by
  rw [Host.reduce_eq_foldl, hi]
  generalize ((List.finRange s.numel).map s.rowMajor.symm).filter (fun i => h.drop i = j) = l
  induction l with
  | nil => rfl
  | cons i l ih => rw [List.foldl_cons, hx]; exact ih

section
variable (g : IVec S3136x64 32) (hg : ∀ j, ∃ k : Fin 256, g j = BitVec.ofNat 32 k.val)
include hg

/-- A number in range is left as it is before the take. -/
theorem wrap_apply (i : S64x3136.Idx) :
    select (cmpi .slt (transpose S64x3136 [1, 0] g transposes_S3136x64_S64x3136_1_0) (broadcastInDim S64x3136 ![] bcast_S_S64x3136 (constantI S_ 32 0#32)))
      (addi (transpose S64x3136 [1, 0] g transposes_S3136x64_S64x3136_1_0) (broadcastInDim S64x3136 ![] bcast_S_S64x3136 (constantI S_ 32 256#32)))
      (transpose S64x3136 [1, 0] g transposes_S3136x64_S64x3136_1_0) i
      = transpose S64x3136 [1, 0] g transposes_S3136x64_S64x3136_1_0 i := by
  have : ∃ k : Fin 256, transpose S64x3136 [1, 0] g transposes_S3136x64_S64x3136_1_0 i = BitVec.ofNat 32 k.val := hg _
  generalize transpose S64x3136 [1, 0] g transposes_S3136x64_S64x3136_1_0 = t at this ⊢
  obtain ⟨k, hk⟩ := this
  show Scalar.select (IntOp.cmpi .slt (t i) 0#32) _ _ = _
  have : IntOp.cmpi .slt (t i) 0#32 = 0#1 := by
    have hn : ¬ (t i).slt 0#32 = true := by rw [hk, show (0#32 : BitVec 32) = BitVec.ofNat 32 0 from rfl, slt_ofNat k.isLt (by decide)]; omega
    simp only [Bool.not_eq_true] at hn
    simp [IntOp.cmpi, hn]
  rw [this]; rfl

theorem rowIdx_range (i : S64x3136x1.Idx) : ∃ k : Fin 256, rowIdx g i = BitVec.ofNat 32 k.val := by
  unfold rowIdx shapeCast
  simp only [wrap_apply g hg]
  exact hg _

theorem rowIdx_apply (r : Fin 3136) (c : Fin 64) : rowIdx g (ix3 c r (0 : Fin 1)) = g (ix2 r c) := by
  unfold rowIdx
  simp only []
  rw [shapeCast_apply _ _ (ix3 c r (0 : Fin 1)) (ix2 c r) (by
    rw [Shape.rowMajor_val_two, Shape.rowMajor_val_three]
    show c.val * 3136 + r.val = (c.val * 3136 + r.val) * 1 + 0
    omega), wrap_apply g hg]
  exact transpose_apply _ _ _ (ix2 c r) (ix2 r c) fun b => by match b with | ⟨0, _⟩ => rfl | ⟨1, _⟩ => rfl

theorem inRange_apply (i : S64x3136.Idx) : inRange (rowIdx g) i = 1#1 := by
  unfold inRange
  refine reduce_ones _ _ _ _ _ (fun i => ?_) (fun _ => rfl)
  obtain ⟨k, hk⟩ := rowIdx_range g hg i
  generalize rowIdx g = v at hk ⊢
  show IntOp.andi (IntOp.cmpi .sge (v i) 0#32) (IntOp.cmpi .sle (v i) 255#32) = 1#1
  have hs : ∀ m : ℕ, m < 256 → (v i).slt (BitVec.ofNat 32 m) = decide (k.val < m) := fun m hm => by
    rw [hk, Bool.eq_iff_iff, slt_ofNat k.isLt hm, decide_eq_true_iff]
  have hs' : ∀ m : ℕ, m < 256 → (BitVec.ofNat 32 m).slt (v i) = decide (m < k.val) := fun m hm => by
    rw [hk, Bool.eq_iff_iff, slt_ofNat hm k.isLt, decide_eq_true_iff]
  have h1 : (0#32 : BitVec 32).sle (v i) = true := by
    rw [BitVec.sle_eq_not_slt, hs 0 (by decide)]; simp
  have h2 : (v i).sle 255#32 = true := by
    have := k.isLt
    rw [BitVec.sle_eq_not_slt, hs' 255 (by decide)]; simp; omega
  simp [IntOp.cmpi, IntOp.andi, h1, h2]
end

/-! ## The bin taken -/

/-- The take's gather at an element: the row of its class, at the number read signed and kept within the row. -/
theorem gather_apply (b : FVec F S64x256 .f32) (v : IVec S64x3136x1 32) (r : Fin 3136) (c : Fin 64) (k : Fin 256)
    (hk : v (ix3 c r (0 : Fin 1)) = BitVec.ofNat 32 k.val) :
    Host.gather gather_S64x256_S64x3136x1_S64x3136_n_1_0_0_1_2_11 b v (ix2 c r) = b (ix2 c k) := by
  set d := gather_S64x256_S64x3136x1_S64x3136_n_1_0_0_1_2_11 with hd
  unfold Host.gather
  refine congrArg b (funext fun a => Fin.ext ?_)
  show d.start (ix2 c r) v a + d.batchCoord (ix2 c r) a + d.offCoord (ix2 c r) a = _
  have hoff : d.offCoord (ix2 c r) a = 0 := d.offCoord_eq_zero _ _ fun h => by
    have := (GatherDims.mem_sKept _ _).1 h
    match a with
    | ⟨0, _⟩ => exact this.2 (List.mem_singleton.2 rfl)
    | ⟨1, _⟩ => exact this.1 (List.mem_singleton.2 rfl)
  rw [hoff, Nat.add_zero]
  obtain rfl | rfl : a = 0 ∨ a = 1 := by
    match a with
    | ⟨0, _⟩ => exact .inl rfl
    | ⟨1, _⟩ => exact .inr rfl
  · have h0 : (0 : Fin 2) ∈ d.operandBatchingDims := List.mem_singleton.2 rfl
    rw [d.start_batching _ _ _ h0, Nat.zero_add]
    unfold GatherDims.batchCoord
    rw [dif_pos h0]
    rfl
  · have h1 : (1 : Fin 2) ∈ d.startIndexMap := List.mem_singleton.2 rfl
    have h10 : (1 : Fin 2) ∉ d.operandBatchingDims := fun h => absurd (List.mem_singleton.1 h) (by decide)
    rw [d.batchCoord_eq_zero _ _ h10, Nat.add_zero]
    unfold GatherDims.start
    rw [dif_pos h1]
    have hsi : d.siIdx (ix2 c r) ⟨List.idxOf (1 : Fin 2) d.startIndexMap, List.idxOf_lt_length_iff.2 h1⟩ = ix3 c r (0 : Fin 1) := by
      funext q
      match q with | ⟨0, _⟩ => rfl | ⟨1, _⟩ => rfl | ⟨2, _⟩ => rfl
    have e : (BitVec.ofNat 32 k.val).toInt.toNat = k.val := by
      have := k.isLt
      rw [show BitVec.ofNat 32 k.val = BitVec.ofInt 32 k.val from rfl, BitVec.toInt_ofInt, Int.bmod_eq_of_le (by omega) (by omega)]; rfl
    show min (v (d.siIdx (ix2 c r) ⟨List.idxOf (1 : Fin 2) d.startIndexMap, _⟩)).toInt.toNat 255 = k.val
    rw [hsi, hk, e]
    have := k.isLt
    omega

/-- The bin taken at an element by a number in range. -/
theorem takeArr_apply (b : FVec F S64x256 .f32) (g : IVec S3136x64 32) (hg : ∀ j, ∃ k : Fin 256, g j = BitVec.ofNat 32 k.val)
    (r : Fin 3136) (c : Fin 64) (k : Fin 256) (hk : g (ix2 r c) = BitVec.ofNat 32 k.val) : takeArr b g (ix2 r c) = b (ix2 c k) := by
  unfold takeArr
  rw [transpose_apply _ _ _ (ix2 r c) (ix2 c r) (fun b => by match b with | ⟨0, _⟩ => rfl | ⟨1, _⟩ => rfl)]
  show Scalar.select (inRange (rowIdx g) (ix2 c r)) (Host.gather gather_S64x256_S64x3136x1_S64x3136_n_1_0_0_1_2_11 b (rowIdx g) (ix2 c r)) _ = _
  rw [inRange_apply g hg]
  exact gather_apply b (rowIdx g) r c k ((rowIdx_apply g hg r c).trans hk)

end Cert.Proof.FsqRef

end
-- ==== Proof.Element.lean ====
/-
  What the kernel does to one number below +∞, said in terms of the whole row of bins on the grid: the number it writes is the first
  bin at the least distance, the value is that bin written the straight-through way, and the error is the squared distance to it.
-/
module

public import proofs.«01_k».proof.Proof.Nearest
public import Idealize.ShloMosaic.Lib.ValueIdxCore

@[expose] public section

noncomputable section

namespace Cert.Proof.Fsq

open Cert.KernelIdeal Cert.KernelIdeal.Gen
open Idealize.ShloMosaic Idealize.ShloMosaic.ValueIdx

/-- The distance of two extended reals, as the host and the tiles compute it. -/
def dist (z x : EReal) : EReal := max (z - x) (-(z - x))

theorem dist_coe (z x : ℝ) : dist (z : EReal) (x : EReal) = ((|z - x| : ℝ) : EReal) := by
  unfold dist
  rw [← EReal.coe_sub, ← EReal.coe_neg, ← EReal.coe_strictMono.monotone.map_max]
  rfl

theorem dist_bot (x : ℝ) : dist ⊥ (x : EReal) = ⊤ := by unfold dist; rw [EReal.bot_sub]; simp

section
variable (b : Vec Ideal S256 .f32) (u : Fin 256 → ℝ) (hu : OnGrid u) (hb : ∀ i : Fin 256, (b (ix1 i) : EReal) = (u i : EReal))
include hb

/-- A bin read by a word in range. -/
theorem bin_ofNat (w : BitVec 32) (k : Fin 256) (h : w.toNat = k.val) : (bin b w : EReal) = (u k : EReal) := by
  rw [← hb k]
  unfold bin
  refine congrArg b (funext fun a => ?_)
  match a with
  | ⟨0, _⟩ => exact Fin.ext (by show w.toNat % 256 = k.val; rw [h]; exact Nat.mod_eq_of_lt k.isLt)

/-- The chosen bin, once the comparison of the two distances is known. -/
theorem chosen (z : EReal) (lo hi : Fin 256) (hlo : (guess (F := Ideal) z).toNat = lo.val) (hhi : (next (F := Ideal) z).toNat = hi.val)
    (k : Fin 256) (hk : k = if dist z (u hi) < dist z (u lo) then hi else lo) :
    qIdx (F := Ideal) b z = BitVec.ofNat 32 k.val ∧ (qVal (F := Ideal) b z : EReal) = z + ((u k : EReal) - z)
      ∧ (qErr (F := Ideal) b z : EReal) = min (dist z (u lo)) (dist z (u hi)) * min (dist z (u lo)) (dist z (u hi)) := by
  have elo := bin_ofNat b u hb _ lo hlo
  have ehi := bin_ofNat b u hb _ hi hhi
  have dlo : (distLo (F := Ideal) b z : EReal) = dist z (u lo) := by rw [← elo]; rfl
  have dhi : (distHi (F := Ideal) b z : EReal) = dist z (u hi) := by rw [← ehi]; rfl
  have hn : nearHi (F := Ideal) b z = BitVec.ofBool (decide (dist z (u hi) < dist z (u lo))) := by
    show BitVec.ofBool (decide ((distHi (F := Ideal) b z : EReal) < distLo (F := Ideal) b z)) = _
    rw [dlo, dhi]
  have glo : guess (F := Ideal) z = BitVec.ofNat 32 lo.val := by rw [← hlo, BitVec.ofNat_toNat, BitVec.setWidth_eq]
  have ghi : next (F := Ideal) z = BitVec.ofNat 32 hi.val := by rw [← hhi, BitVec.ofNat_toNat, BitVec.setWidth_eq]
  refine ⟨?_, ?_, ?_⟩
  · unfold qIdx
    rw [hn, hk, glo, ghi]
    split_ifs with h <;> simp [h, Scalar.select]
  · unfold qVal
    show z + (Scalar.select (nearHi (F := Ideal) b z) (bin b (next (F := Ideal) z) : EReal) (bin b (guess (F := Ideal) z)) - z) = _
    rw [hn, hk, elo, ehi]
    split_ifs with h <;> simp [h, Scalar.select]
  · show min (distLo (F := Ideal) b z : EReal) (distHi (F := Ideal) b z) * min (distLo (F := Ideal) b z : EReal) (distHi (F := Ideal) b z) = _
    rw [dlo, dhi]

include hu

/-- The kernel's choice is the first nearest bin of all. -/
theorem quantised (z : EReal) (hz : z < ⊤) :
    ∃ k : Fin 256, FirstMin (fun i => dist z (u i)) k ∧ (dist z (u k) = ⊤ → k.val = 0) ∧ qIdx (F := Ideal) b z = BitVec.ofNat 32 k.val
      ∧ (qVal (F := Ideal) b z : EReal) = z + ((u k : EReal) - z) ∧ (qErr (F := Ideal) b z : EReal) = (z - (u k : EReal)) * (z - (u k : EReal)) := by
  have hg := guess_le (F := Ideal) z
  have hn := next_toNat (F := Ideal) z
  set lo : Fin 256 := ⟨(guess (F := Ideal) z).toNat, by omega⟩ with hlo
  set hi : Fin 256 := ⟨(guess (F := Ideal) z).toNat + 1, by omega⟩ with hhi
  obtain ⟨h1, h2, h3⟩ := chosen b u hb z lo hi rfl hn _ rfl
  refine ⟨_, ?_, ?_, h1, h2, ?_⟩
  all_goals clear h1 h2
  · induction z with
    | bot =>
      have : lo = 0 := Fin.ext (by rw [hlo]; show (guess (F := Ideal) ⊥).toNat = 0; rw [guess_bot]; rfl)
      simp only [dist_bot, lt_irrefl, if_false]
      exact ⟨fun _ => le_rfl, fun i hi' => absurd hi' (by rw [this]; exact Fin.not_lt_zero i)⟩
    | top => exact absurd hz (lt_irrefl _)
    | coe z =>
      obtain ⟨s1, s2⟩ := guess_real z
      have hl : ∀ i, i < lo → |z - u lo| < |z - u i| := fun i => far_left u hu z lo s1 i
      have hr : ∀ i, hi < i → |z - u hi| < |z - u i| := fun i hii => far_right u hu z hi (by
        rcases s2 with s2 | s2
        · have := i.isLt
          have : hi.val < i.val := hii
          have : hi.val = (guess (F := Ideal) (z : EReal)).toNat + 1 := rfl
          omega
        · rw [show ((hi.val : ℕ) : ℝ) = ((guess (F := Ideal) (z : EReal)).toNat : ℝ) + 1 from by rw [hhi]; push_cast; rfl]
          exact s2) i hii
      have hcases : ∀ i : Fin 256, i < lo ∨ i = lo ∨ i = hi ∨ hi < i := fun i => by
        simp only [Fin.lt_def, Fin.ext_iff, hlo, hhi]; omega
      have hlh : lo < hi := by simp only [Fin.lt_def, hlo, hhi]; omega
      unfold FirstMin
      simp only [dist_coe, EReal.coe_lt_coe_iff, EReal.coe_le_coe_iff]
      split_ifs with h
      · refine ⟨fun i => ?_, fun i hii => ?_⟩
        · rcases hcases i with c | rfl | rfl | c
          · exact (h.trans (hl i c)).le
          · exact h.le
          · exact le_rfl
          · exact (hr i c).le
        · rcases hcases i with c | rfl | rfl | c
          · exact h.trans (hl i c)
          · exact h
          · exact absurd hii (lt_irrefl _)
          · exact absurd hii (not_lt.2 c.le)
      · have h := not_lt.1 h
        refine ⟨fun i => ?_, fun i hii => ?_⟩
        · rcases hcases i with c | rfl | rfl | c
          · exact (hl i c).le
          · exact le_rfl
          · exact h
          · exact h.trans (hr i c).le
        · exact hl i hii
  · induction z with
    | bot =>
      intro _
      simp only [dist_bot, lt_irrefl, if_false]
      show (guess (F := Ideal) ⊥).toNat = 0
      rw [guess_bot]; rfl
    | top => exact absurd hz (lt_irrefl _)
    | coe z => rw [dist_coe]; intro h; exact absurd h (EReal.coe_ne_top _)
  · rw [h3]
    induction z with
    | bot => simp [dist_bot, EReal.bot_sub]
    | top => exact absurd hz (lt_irrefl _)
    | coe z =>
      simp only [dist_coe, EReal.coe_lt_coe_iff, ← EReal.coe_sub, ← EReal.coe_mul, ← EReal.coe_strictMono.monotone.map_min]
      refine congrArg _ ?_
      split_ifs with h
      · rw [min_eq_right h.le, abs_mul_abs_self]
      · rw [min_eq_left (not_lt.1 h), abs_mul_abs_self]
end

end Cert.Proof.Fsq

end
-- ==== Proof.PreRead.lean ====
/-
  What the precondition says of the inputs over the extended reals: no element is +∞, every row of bins is the first
  one, and that row lies on the grid.
-/
module

public import proofs.«01_k».proof.Proof.Nearest
public import proofs.«01_k».proof.Proof.Places
public import Idealize.ShloMosaic.Lib.ValueIdxCore
public import Idealize.ShloMosaic.Lib.Pipeline.Value
public import Idealize.ShloMosaic.Lib.IdealHost

@[expose] public section

noncomputable section

namespace Cert.Proof.Fsq

open Idealize.ShloMosaic Idealize.ShloMosaic.ValueIdx

theorem preFacts : Cert.Pre_uniform_grid.Facts := ⟨by decide, by decide, by decide, by decide⟩

theorem ofBits_half : Ideal.ofBits .f32 0x3F000000#32 = ((1 / 2 : ℝ) : EReal) := by simp [Ideal.ofBits, Ideal.ieee, -EReal.coe_mul]; norm_num
theorem ofBits_inf : Ideal.ofBits .f32 0x7F800000#32 = (⊤ : EReal) := by simp [Ideal.ofBits, Ideal.ieee]

/-- A bin whose grid position is within half a step of a whole number is a real number. -/
theorem real_of_near (x : EReal) (c : ℝ) (m : ℝ)
    (h : max (x * ((127.5 : ℝ) : EReal) + ((127.5 : ℝ) : EReal) - (m : EReal)) (-(x * ((127.5 : ℝ) : EReal) + ((127.5 : ℝ) : EReal) - (m : EReal))) < (c : EReal)) :
    ∃ v : ℝ, x = (v : EReal) ∧ |v * 127.5 + 127.5 - m| < c := by
  induction x with
  | bot =>
    rw [EReal.bot_mul_coe_of_pos (by norm_num), EReal.bot_add, EReal.bot_sub] at h
    simp at h
  | top =>
    rw [EReal.top_mul_coe_of_pos (by norm_num), EReal.top_add_coe, EReal.top_sub_coe] at h
    simp at h
  | coe v =>
    refine ⟨v, rfl, ?_⟩
    rw [← EReal.coe_mul, ← EReal.coe_add, ← EReal.coe_sub, ← EReal.coe_neg, ← EReal.coe_strictMono.monotone.map_max, EReal.coe_lt_coe_iff] at h
    exact h

theorem toInt_ofNat_small {n : ℕ} (hn : n < 256) : (BitVec.ofNat 32 n).toInt = n := by
  rw [show BitVec.ofNat 32 n = BitVec.ofInt 32 n from rfl, BitVec.toInt_ofInt]; exact Int.bmod_eq_of_le (by omega) (by omega)

section
variable [Cert.Pre_uniform_grid.Facts] (z : FVec Ideal Cert.Pre_uniform_grid.S4x4x196x64 .f32) (n : FVec Ideal Cert.Pre_uniform_grid.S64x256 .f32)

theorem pre_finite (h : (Cert.Pre_uniform_grid.fn (F := Ideal) z n).1 = fun _ => 1#1) (i : Cert.Pre_uniform_grid.S4x4x196x64.Idx) : (z i : EReal) < ⊤ := by
  have e : BitVec.ofBool (decide ((z i : EReal) < Ideal.ofBits .f32 0x7F800000#32)) = 1#1 := congrFun h i
  rw [ofBits_inf] at e
  by_contra hc
  simp [hc] at e

theorem pre_rows (h : (Cert.Pre_uniform_grid.fn (F := Ideal) z n).2.1 = fun _ => 1#1) (c : Fin 64) (i : Fin 256) :
    (n (ix2 c i) : EReal) = n (ix2 (0 : Fin 64) i) := by
  have e := congrFun h (ix2 c i)
  have e' : BitVec.ofBool (decide ((n (ix2 c i) : EReal) = broadcastInDim Cert.Pre_uniform_grid.S64x256 ![0, 1] Cert.Pre_uniform_grid.Facts.bcast_S1x256_S64x256_0_1
      (extractStridedSlice Cert.Pre_uniform_grid.S1x256 ![0, 0] n Cert.Pre_uniform_grid.Facts.slices_S64x256_S1x256_0_0) (ix2 c i))) = 1#1 := e
  rw [broadcastInDim_apply _ _ _ (ix2 c i) (ix2 (0 : Fin 1) i) (fun a => by match a with | ⟨0, _⟩ => rfl | ⟨1, _⟩ => rfl),
    extractStridedSlice_apply _ _ _ (ix2 (0 : Fin 1) i) (ix2 (0 : Fin 64) i) (fun a => by
      match a with | ⟨0, _⟩ => rfl | ⟨1, _⟩ => exact (Nat.zero_add _).symm)] at e'
  by_contra hc
  simp [hc] at e'

theorem pre_grid (h : (Cert.Pre_uniform_grid.fn (F := Ideal) z n).2.2 = fun _ => 1#1) :
    ∃ u : Fin 256 → ℝ, OnGrid u ∧ ∀ i, (n (ix2 (0 : Fin 64) i) : EReal) = (u i : EReal) := by
  have key : ∀ i : Fin 256, ∃ v : ℝ, (n (ix2 (0 : Fin 64) i) : EReal) = (v : EReal) ∧ |v * 127.5 + 127.5 - (i.val : ℝ)| < 1 / 2 := fun i => by
    refine real_of_near _ _ _ ?_
    have e := congrFun h (ix2 (0 : Fin 64) i)
    have e' : BitVec.ofBool (decide (max ((n (ix2 (0 : Fin 64) i) : EReal) * Ideal.ofBits .f32 0x42FF0000#32 + Ideal.ofBits .f32 0x42FF0000#32 - (((BitVec.ofNat 32 i.val).toInt : ℝ) : EReal))
        (-((n (ix2 (0 : Fin 64) i) : EReal) * Ideal.ofBits .f32 0x42FF0000#32 + Ideal.ofBits .f32 0x42FF0000#32 - (((BitVec.ofNat 32 i.val).toInt : ℝ) : EReal))) < Ideal.ofBits .f32 0x3F000000#32)) = 1#1 := e
    rw [ofBits_scale, ofBits_half, toInt_ofNat_small i.isLt] at e'
    rw [Int.cast_natCast] at e'
    by_contra hc
    rw [decide_eq_false hc] at e'
    exact absurd e' (by decide)
  choose u hu using key
  exact ⟨u, fun i => (hu i).2, fun i => (hu i).1⟩
end

/-- The row the kernel reads is the bins' first. -/
theorem row0_apply {F : FTy → Type} [FloatOps F] [Named F] (n : Vec F Cert.KernelIdeal.S64x256 .f32) (i : Fin 256) : row0 n (ix1 i) = n (ix2 (0 : Fin 64) i) := by
  show shapeCast Cert.KernelIdeal.S256 (fun y : Cert.KernelIdeal.S1x256.Idx => n ((Rect.unit (s := Cert.KernelIdeal.S64x256) ![0, 0] Cert.KernelIdeal.S1x256.size
    Cert.KernelIdeal.Facts₀.inb_S64x256_S1x256_0_0).emb y)) _ (ix1 i) = _
  rw [shapeCast_apply _ _ (ix1 i) (ix2 (0 : Fin 1) i) (by
    rw [Shape.rowMajor_val_two, Shape.rowMajor_val_one]
    show 0 * 256 + i.val = i.val
    omega)]
  refine congrArg n (funext fun a => ?_)
  match a with
  | ⟨0, _⟩ => exact Fin.ext rfl
  | ⟨1, _⟩ => exact Fin.ext (by show 0 + 1 * i.val = i.val; omega)

end Cert.Proof.Fsq

end
-- ==== Proof.TileSum.lean ====
/-
  The sum of a tile's sixteen partial sums, over the extended reals: the squared distances of all 32 × 196 elements of
  its block, each once. Addition is commutative and associative there, so the order of the thirteen blocks and of the four running
  sums does not matter; the last block's first twelve lanes, counted already, are at zero.
-/
module

public import proofs.«01_k».proof.Proof.Places
public import Idealize.ShloMosaic.Lib.ValueIdxCore
public import Idealize.ShloMosaic.Lib.Pipeline.Value
public import Idealize.ShloMosaic.PureOps.Ideal.Laws

@[expose] public section

noncomputable section

namespace Cert.Proof.Fsq

open Cert.KernelIdeal Cert.KernelIdeal.Gen
open Idealize.ShloMosaic Idealize.ShloMosaic.ValueIdx
open scoped BigOperators

/-! ## Sums of numbers in blocks of sixteen -/

section Blocks
variable {M : Type} [AddCommMonoid M] (f : ℕ → M)

theorem sum_blocks (m : ℕ) : ∑ x ∈ Finset.range 16, ∑ k ∈ Finset.range m, f (16 * k + x) = ∑ y ∈ Finset.range (16 * m), f y := by
  rw [Finset.sum_comm]
  induction m with
  | zero => simp
  | succ m ih => rw [Finset.sum_range_succ, ih, Nat.mul_succ, Finset.sum_range_add]

/-- Twelve blocks of sixteen, and the last four numbers as the tail of a thirteenth that begins twelve early. -/
theorem sum_row : ∑ x ∈ Finset.range 16, ((∑ k ∈ Finset.range 12, f (16 * k + x)) + (if 12 ≤ x then f (180 + x) else 0)) = ∑ y ∈ Finset.range 196, f y := by
  rw [Finset.sum_add_distrib, sum_blocks, show (196 : ℕ) = 16 * 12 + 4 from rfl, Finset.sum_range_add]
  congr 1
  simp [Finset.sum_range_succ]
end Blocks

/-! ## One row -/

section
variable (b : Vec Ideal S256 .f32) (z : Vec Ideal S32x196 .f32)

/-- The squared distance at place `y` of row `t`; zero outside the block. -/
def errOf (t y : ℕ) : EReal := if h : t < 32 ∧ y < 196 then qErr (F := Ideal) b (z (ix2 (⟨t, h.1⟩ : Fin 32) (⟨y, h.2⟩ : Fin 196))) else 0

theorem lane_val (x : Fin 16) : (S16.rowMajor (lane x)).val = x.val := Shape.rowMajor_val_one _

/-- A block's squared distances, lane by lane. -/
theorem errAt_lane (o : Fin 2 → ℕ) (h : ∀ a, o a + S1x16.size a ≤ S32x196.size a) (t c : ℕ) (ho : o = ![t, c]) (x : Fin 16) :
    (errAt (F := Ideal) b z o h (lane x) : EReal) = errOf b z t (c + x.val) := by
  subst ho
  have h0 : t + 1 ≤ 32 := h 0
  have h1 : c + 16 ≤ 196 := h 1
  have hx := x.isLt
  unfold errAt errOf
  rw [shapeCast_apply _ _ (lane x) (ix2 (0 : Fin 1) x) (by
    rw [Shape.rowMajor_val_two, lane_val]
    show 0 * 16 + x.val = x.val
    omega), dif_pos ⟨by omega, by omega⟩]
  refine congrArg (fun q => (qErr (F := Ideal) b (z q) : EReal)) (funext fun a => ?_)
  match a with
  | ⟨0, _⟩ => exact Fin.ext (by show t + 1 * 0 = t; omega)
  | ⟨1, _⟩ => exact Fin.ext (by show c + 1 * x.val = c + x.val; omega)

/-- The thirteenth block's lanes below twelve are at zero. -/
theorem tailV_lane (e : FVec Ideal S16 .f32) (x : Fin 16) : (tailV (F := Ideal) e (lane x) : EReal) = if 12 ≤ x.val then e (lane x) else 0 := by
  have hi : (tailKeep (lane x)) = BitVec.ofBool (decide (12 ≤ x.val)) := by
    have : ∀ x : Fin 16, tailKeep (lane x) = BitVec.ofBool (decide (12 ≤ x.val)) := by decide
    exact this x
  show Scalar.select (tailKeep (lane x)) (e (lane x) : EReal) (Ideal.ofBits .f32 0x00000000#32) = _
  rw [hi, Ideal.ofBits_zero_f32]
  split_ifs with h <;> simp [h, Scalar.select]

/-- The four running sums of a lane, together. -/
def total (a : Sums Ideal) (x : Fin 16) : EReal := (a.1 (lane x) + a.2.1 (lane x) : EReal) + (a.2.2.1 (lane x) + a.2.2.2 (lane x) : EReal)

theorem total_row (t : Fin k0_t1_loop.trips) (a : Sums Ideal) (x : Fin 16) :
    total (rowSums (F := Ideal) b z t a) x
      = total a x + ((∑ k ∈ Finset.range 12, errOf b z t.val (16 * k + x.val)) + (if 12 ≤ x.val then errOf b z t.val (180 + x.val) else 0)) := by
  show (((((a.1 (lane x) : EReal) + errAt (F := Ideal) b z (k0_off2 t) (k0_off2_inb t) (lane x)) + errAt (F := Ideal) b z (k0_off10 t) (k0_off10_inb t) (lane x))
        + errAt (F := Ideal) b z (k0_off18 t) (k0_off18_inb t) (lane x)) + tailV (F := Ideal) (errAt (F := Ideal) b z (k0_off26 t) (k0_off26_inb t)) (lane x)
      + ((((a.2.1 (lane x) : EReal) + errAt (F := Ideal) b z (k0_off4 t) (k0_off4_inb t) (lane x)) + errAt (F := Ideal) b z (k0_off12 t) (k0_off12_inb t) (lane x))
        + errAt (F := Ideal) b z (k0_off20 t) (k0_off20_inb t) (lane x)))
    + (((((a.2.2.1 (lane x) : EReal) + errAt (F := Ideal) b z (k0_off6 t) (k0_off6_inb t) (lane x)) + errAt (F := Ideal) b z (k0_off14 t) (k0_off14_inb t) (lane x))
        + errAt (F := Ideal) b z (k0_off22 t) (k0_off22_inb t) (lane x))
      + ((((a.2.2.2 (lane x) : EReal) + errAt (F := Ideal) b z (k0_off8 t) (k0_off8_inb t) (lane x)) + errAt (F := Ideal) b z (k0_off16 t) (k0_off16_inb t) (lane x))
        + errAt (F := Ideal) b z (k0_off24 t) (k0_off24_inb t) (lane x))) = _
  rw [tailV_lane, errAt_lane b z _ _ _ _ (k0_off2_eq t), errAt_lane b z _ _ _ _ (k0_off4_eq t), errAt_lane b z _ _ _ _ (k0_off6_eq t),
    errAt_lane b z _ _ _ _ (k0_off8_eq t), errAt_lane b z _ _ _ _ (k0_off10_eq t), errAt_lane b z _ _ _ _ (k0_off12_eq t), errAt_lane b z _ _ _ _ (k0_off14_eq t),
    errAt_lane b z _ _ _ _ (k0_off16_eq t), errAt_lane b z _ _ _ _ (k0_off18_eq t), errAt_lane b z _ _ _ _ (k0_off20_eq t), errAt_lane b z _ _ _ _ (k0_off22_eq t),
    errAt_lane b z _ _ _ _ (k0_off24_eq t), errAt_lane b z _ _ _ _ (k0_off26_eq t)]
  unfold total
  simp only [Finset.sum_range_succ, Finset.sum_range_zero, zero_add, Nat.reduceMul]
  generalize (if 12 ≤ x.val then errOf b z t.val (180 + x.val) else 0) = tail
  abel

/-! ## All rows -/

theorem total_zero (x : Fin 16) : total (sumsAt (F := Ideal) b z 0) x = 0 := by
  have : (k0_pay127 (F := Ideal) (lane x) : EReal) = 0 := Ideal.ofBits_zero_f32
  show ((k0_pay127 (F := Ideal) (lane x) : EReal) + k0_pay127 (F := Ideal) (lane x)) + ((k0_pay127 (F := Ideal) (lane x) : EReal) + k0_pay127 (F := Ideal) (lane x)) = 0
  rw [this]; simp

theorem trips_eq : k0_t1_loop.trips = 32 := by decide

theorem total_rows (n : ℕ) (hn : n ≤ 32) (x : Fin 16) :
    total (sumsAt (F := Ideal) b z n) x = ∑ t ∈ Finset.range n,
      ((∑ k ∈ Finset.range 12, errOf b z t (16 * k + x.val)) + (if 12 ≤ x.val then errOf b z t (180 + x.val) else 0)) := by
  induction n with
  | zero => rw [total_zero]; rfl
  | succ n ih =>
    have := sumsAt_succ (F := Ideal) b z ⟨n, by rw [trips_eq]; omega⟩
    simp only [] at this
    rw [this, total_row, ih (by omega)]
    exact (Finset.sum_range_succ _ n).symm

/-- The lanes of a tile together: its whole block. -/
theorem total_block : ∑ x : Fin 16, total (sumsAt (F := Ideal) b z 32) x = ∑ t : Fin 32, ∑ y : Fin 196, (qErr (F := Ideal) b (z (ix2 t y)) : EReal) := by
  have h : ∀ (t : Fin 32) (y : Fin 196), (qErr (F := Ideal) b (z (ix2 t y)) : EReal) = errOf b z t.val y.val := fun t y => by
    unfold errOf; rw [dif_pos ⟨t.isLt, y.isLt⟩]
  simp only [h, total_rows b z 32 le_rfl]
  have hr : ∑ t : Fin 32, ∑ y : Fin 196, errOf b z t.val y.val = ∑ t ∈ Finset.range 32, ∑ y ∈ Finset.range 196, errOf b z t y := by
    rw [Finset.sum_range]
    exact Finset.sum_congr rfl fun t _ => (Finset.sum_range _).symm
  rw [hr, ← Finset.sum_range (fun x => ∑ t ∈ Finset.range 32,
      ((∑ k ∈ Finset.range 12, errOf b z t (16 * k + x)) + (if 12 ≤ x then errOf b z t (180 + x) else 0))), Finset.sum_comm]
  exact Finset.sum_congr rfl fun t _ => sum_row (errOf b z t)
end

end Cert.Proof.Fsq

end
-- ==== Proof.LossSum.lean ====
/-
  The sum of all the partial sums, over the extended reals: the squared distances of all elements of the input, each once; and the
  loss the kernel makes of it.
-/
module

public import proofs.«01_k».proof.Proof.TileSum
public import proofs.«01_k».proof.Proof.Launch

@[expose] public section

noncomputable section

namespace Cert.Proof.Fsq

open Cert.KernelIdeal Cert.KernelIdeal.Gen
open Idealize.ShloMosaic Idealize.ShloMosaic.ValueIdx
open scoped BigOperators

/-! ## Indices of rank 3 and 4 as their coordinates -/

def split3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

def split4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

section
variable {M : Type} [AddCommMonoid M]

theorem sum_split3 {n0 n1 n2 : ℕ} (f : (⟨3, ![n0, n1, n2]⟩ : Shape).Idx → M) : ∑ i, f i = ∑ a : Fin n0, ∑ b : Fin n1, ∑ c : Fin n2, f (ix3 a b c) := by
  rw [← Equiv.sum_comp split3.symm f, Fintype.sum_prod_type]
  refine Finset.sum_congr rfl fun a _ => ?_
  rw [Fintype.sum_prod_type]
  rfl

theorem sum_split4 {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp split4.symm f, Fintype.sum_prod_type]
  refine Finset.sum_congr rfl fun a _ => ?_
  rw [Fintype.sum_prod_type]
  refine Finset.sum_congr rfl fun b _ => ?_
  rw [Fintype.sum_prod_type]
  rfl

/-- The 32 tiles' 32 rows each are the 4 × 4 × 64 rows of the array. -/
def tileRows : Fin 32 × Fin 32 ≃ Fin 4 × Fin 4 × Fin 64 where
  toFun p := (⟨p.1.val / 8, by have := p.1.isLt; omega⟩, ⟨p.1.val / 2 % 4, by omega⟩, ⟨32 * (p.1.val % 2) + p.2.val, by have := p.2.isLt; omega⟩)
  invFun q := (⟨8 * q.1.val + 2 * q.2.1.val + q.2.2.val / 32, by have := q.1.isLt; have := q.2.1.isLt; have := q.2.2.isLt; omega⟩, ⟨q.2.2.val % 32, by omega⟩)
  left_inv p := by
    have := p.1.isLt; have := p.2.isLt
    refine Prod.ext (Fin.ext ?_) (Fin.ext ?_)
    · show 8 * (p.1.val / 8) + 2 * (p.1.val / 2 % 4) + (32 * (p.1.val % 2) + p.2.val) / 32 = p.1.val
      omega
    · show (32 * (p.1.val % 2) + p.2.val) % 32 = p.2.val
      omega
  right_inv q := by
    have := q.1.isLt; have := q.2.1.isLt; have := q.2.2.isLt
    refine Prod.ext (Fin.ext ?_) (Prod.ext (Fin.ext ?_) (Fin.ext ?_))
    · show (8 * q.1.val + 2 * q.2.1.val + q.2.2.val / 32) / 8 = q.1.val
      omega
    · show (8 * q.1.val + 2 * q.2.1.val + q.2.2.val / 32) / 2 % 4 = q.2.1.val
      omega
    · show 32 * ((8 * q.1.val + 2 * q.2.1.val + q.2.2.val / 32) % 2) + q.2.2.val % 32 = q.2.2.val
      omega

theorem sum_tileRows (f : Fin 4 × Fin 4 × Fin 64 → M) :
    ∑ w : Fin 32, ∑ t : Fin 32, f (tileRows (w, t)) = ∑ a : Fin 4, ∑ b : Fin 4, ∑ c : Fin 64, f (a, b, c) := by
  rw [← Fintype.sum_prod_type', Equiv.sum_comp tileRows f, Fintype.sum_prod_type]
  refine Finset.sum_congr rfl fun a _ => ?_
  rw [Fintype.sum_prod_type]
end

/-! ## The partial sums together -/

/-- A tile's block, read at a row and a place. -/
theorem blkOf_apply (a : Vec Ideal S4x4x64x196 .f32) (w t : Fin 32) (y : Fin 196) :
    blkOf (F := Ideal) a (tileAt w) (ix2 t y) = a (ix4 (tileRows (w, t)).1 (tileRows (w, t)).2.1 (tileRows (w, t)).2.2 y) := by
  show shapeCast S32x196 (fun q : S1x1x32x196.Idx => a ((blkR (tileAt w)).emb q)) squeezes_S1x1x32x196_S32x196.numel_eq (ix2 t y) = _
  rw [shapeCast_apply _ _ (ix2 t y) (ix4 (0 : Fin 1) (0 : Fin 1) t y) (by
    rw [Shape.rowMajor_val_two, Shape.rowMajor_val_four]
    show ((0 * 1 + 0) * 32 + t.val) * 196 + y.val = t.val * 196 + y.val
    omega)]
  refine congrArg a (funext fun k => ?_)
  have ho := off1_eq (tileAt w)
  match k with
  | ⟨0, _⟩ => exact Fin.ext (by
      show k0_off1 (tileAt w) 0 + 1 * 0 = w.val / 8
      rw [ho]; show w.val / 2 / 4 + 1 * 0 = _; omega)
  | ⟨1, _⟩ => exact Fin.ext (by
      show k0_off1 (tileAt w) 1 + 1 * 0 = w.val / 2 % 4
      rw [ho]; show w.val / 2 % 4 + 1 * 0 = _; omega)
  | ⟨2, _⟩ => exact Fin.ext (by
      show k0_off1 (tileAt w) 2 + 1 * t.val = 32 * (w.val % 2) + t.val
      rw [ho]; show 32 * (w.val % 2) + 1 * t.val = _; omega)
  | ⟨3, _⟩ => exact Fin.ext (by
      show k0_off1 (tileAt w) 3 + 1 * y.val = y.val
      rw [ho]; show 0 + 1 * y.val = _; omega)

/-- All the partial sums add up to the squared distances of all elements. -/
theorem sum_partArr (a : Vec Ideal S4x4x64x196 .f32) (n : Vec Ideal S64x256 .f32) :
    ∑ i, (partArr (F := Ideal) a n i : EReal) = ∑ i, (qErr (F := Ideal) (row0 n) (a i) : EReal) := by
  rw [sum_split3, sum_split4]
  have h1 : ∀ w : Fin 32, ∑ b : Fin 1, ∑ x : Fin 16, (partArr (F := Ideal) a n (ix3 w b x) : EReal)
      = ∑ t : Fin 32, ∑ y : Fin 196, (qErr (F := Ideal) (row0 n) (a (ix4 (tileRows (w, t)).1 (tileRows (w, t)).2.1 (tileRows (w, t)).2.2 y)) : EReal) := fun w => by
    rw [Fin.sum_univ_one]
    have h2 := total_block (row0 (F := Ideal) n) (blkOf (F := Ideal) a (tileAt w))
    simp only [blkOf_apply] at h2
    exact h2
  rw [Finset.sum_congr rfl fun w _ => h1 w]
  exact sum_tileRows fun q => ∑ y : Fin 196, (qErr (F := Ideal) (row0 n) (a (ix4 q.1 q.2.1 q.2.2 y)) : EReal)

/-! ## The loss -/

/-- The kernel's scale: one over half the number of elements. -/
theorem scale_eq : Named.named (F := Ideal) Cert.KernelIdeal.κ "loss_scale" (φ := .f32) 0x37272F05#32 = ((1 / 100352 : ℝ) : EReal) :=
  IdealRules.named_const.ideal_named_scalar _ _ _ _ rfl

theorem k1_pay1_eq (p : Vec Ideal S32x1x16 .f32) : (k1_pay1 (F := Ideal) p : EReal) = (∑ i, (p i : EReal)) * ((1 / 100352 : ℝ) : EReal) := by
  unfold k1_pay1
  simp only []
  show (extractAt _ _ _ : EReal) * Named.named (F := Ideal) Cert.KernelIdeal.κ "loss_scale" (φ := .f32) 0x37272F05#32 = _
  rw [scale_eq]
  refine congrArg (fun q : EReal => q * ((1 / 100352 : ℝ) : EReal)) ?_
  refine (Ideal.multiReduction_add_total (shapeCast S1x32x1x16 (shapeCast S32x1x16 p shapeCasts_S32x1x16_S32x1x16) shapeCasts_S32x1x16_S1x32x1x16) 0x00000000#32 reduces_S1x32x1x16_S1
    (fun b => by match b with | ⟨0, _⟩ => rfl) (.inl rfl) rfl _).trans ?_
  unfold shapeCast
  rw [Equiv.sum_comp (Shape.reshapeEquiv shapeCasts_S32x1x16_S1x32x1x16) (fun i => (p (Shape.reshapeEquiv shapeCasts_S32x1x16_S32x1x16 i) : EReal)),
    Equiv.sum_comp (Shape.reshapeEquiv shapeCasts_S32x1x16_S32x1x16) (fun i => (p i : EReal))]

/-- The transposed input has the input's elements. -/
theorem sum_zT (z : Vec Ideal S4x4x196x64 .f32) (f : EReal → EReal) : ∑ i, f (zT (F := Ideal) z i) = ∑ i, f (z i) := by
  rw [sum_split4, sum_split4 (fun i => f (z i))]
  refine Finset.sum_congr rfl fun a _ => Finset.sum_congr rfl fun b _ => ?_
  rw [Finset.sum_comm]
  refine Finset.sum_congr rfl fun y _ => Finset.sum_congr rfl fun c _ => congrArg f ?_
  exact transpose_apply _ _ _ (ix4 a b c y) (ix4 a b y c) fun k => by match k with | ⟨0, _⟩ => rfl | ⟨1, _⟩ => rfl | ⟨2, _⟩ => rfl | ⟨3, _⟩ => rfl

/-- The kernel's loss: the sum of all squared distances, scaled. -/
theorem lossOut_eq (z : Vec Ideal S4x4x196x64 .f32) (n : Vec Ideal S64x256 .f32) (j : S_.Idx) :
    (lossOut (F := Ideal) z n j : EReal) = (∑ i, (qErr (F := Ideal) (row0 n) (z i) : EReal)) * ((1 / 100352 : ℝ) : EReal) := by
  show (k1_pay1 (F := Ideal) (partArr (zT z) n) : EReal) = _
  rw [k1_pay1_eq, sum_partArr, sum_zT z fun v => (qErr (F := Ideal) (row0 n) v : EReal)]

end Cert.Proof.Fsq

end
-- ==== Proof.Equation.lean ====
/-
  The equation: over the extended reals, under the precondition, the kernel's three results are the reference's.
-/
module

public import proofs.«01_k».proof.Proof.RefElem
public import proofs.«01_k».proof.Proof.Element
public import proofs.«01_k».proof.Proof.PreRead
public import proofs.«01_k».proof.Proof.LossSum

@[expose] public section

noncomputable section

namespace Cert.Proof.Fsq

open Cert.KernelIdeal Cert.KernelIdeal.Gen
open Idealize.ShloMosaic Idealize.ShloMosaic.ValueIdx
open Cert.Proof.FsqRef (flat distArr argArr takeArr meanSq lossOf outOf idxOf)
open scoped BigOperators

/-! ## The reference's flat arrays, element by element -/

section
variable (z : Vec Ideal S4x4x196x64 .f32) (n : Vec Ideal S64x256 .f32)
  (hz : ∀ i, (z i : EReal) < ⊤) (hrow : ∀ (c : Fin 64) (i : Fin 256), (n (ix2 c i) : EReal) = n (ix2 (0 : Fin 64) i))
  (u : Fin 256 → ℝ) (hu : OnGrid u) (hn : ∀ i : Fin 256, (n (ix2 (0 : Fin 64) i) : EReal) = (u i : EReal))
include hz hrow hu hn

/-- At every element one bin serves both programs. -/
theorem one_bin (r : Fin 3136) (c : Fin 64) :
    ∃ k : Fin 256, argArr (F := Ideal) (distArr (F := Ideal) z n) (ix2 r c) = BitVec.ofNat 32 k.val
      ∧ qIdx (F := Ideal) (row0 n) (flat (F := Ideal) z (ix2 r c)) = BitVec.ofNat 32 k.val
      ∧ (qVal (F := Ideal) (row0 n) (flat (F := Ideal) z (ix2 r c)) : EReal)
          = (flat (F := Ideal) z (ix2 r c) : EReal) + ((n (ix2 c k) : EReal) - flat (F := Ideal) z (ix2 r c))
      ∧ (qErr (F := Ideal) (row0 n) (flat (F := Ideal) z (ix2 r c)) : EReal)
          = ((flat (F := Ideal) z (ix2 r c) : EReal) - n (ix2 c k)) * ((flat (F := Ideal) z (ix2 r c) : EReal) - n (ix2 c k)) := by
  have hb : ∀ i : Fin 256, (row0 (F := Ideal) n (ix1 i) : EReal) = (u i : EReal) := fun i => (row0_apply (F := Ideal) n i).trans (hn i)
  have hd : ∀ i : Fin 256, (distArr (F := Ideal) z n (ix3 r c i) : EReal) = dist (flat (F := Ideal) z (ix2 r c)) (u i) := fun i => by
    rw [FsqRef.distArr_apply, ← hn i, ← hrow c i]; rfl
  obtain ⟨k, h1, h2, h3, h4, h5⟩ := quantised (row0 (F := Ideal) n) u hu hb (flat (F := Ideal) z (ix2 r c)) (hz _)
  refine ⟨k, FsqRef.argArr_apply _ r c k ?_ ?_, h3, ?_, ?_⟩
  · simp only [hd]; exact h1
  · rw [hd]; exact h2
  · rw [hrow, hn]; exact h4
  · rw [hrow, hn]; exact h5

theorem arg_range (j : Cert.ReferenceIdeal.S3136x64.Idx) : ∃ k : Fin 256, argArr (F := Ideal) (distArr (F := Ideal) z n) j = BitVec.ofNat 32 k.val := by
  obtain ⟨r, c, rfl⟩ : ∃ (r : Fin 3136) (c : Fin 64), j = ix2 r c := ⟨_, _, eq_ix2 j⟩
  obtain ⟨k, h, -⟩ := one_bin z n hz hrow u hu hn r c
  exact ⟨k, h⟩

theorem arg_eq (j : Cert.ReferenceIdeal.S3136x64.Idx) :
    argArr (F := Ideal) (distArr (F := Ideal) z n) j = qIdx (F := Ideal) (row0 n) (flat (F := Ideal) z j) := by
  obtain ⟨r, c, rfl⟩ : ∃ (r : Fin 3136) (c : Fin 64), j = ix2 r c := ⟨_, _, eq_ix2 j⟩
  obtain ⟨k, h, h', -⟩ := one_bin z n hz hrow u hu hn r c
  exact h.trans h'.symm

theorem take_eq (j : Cert.ReferenceIdeal.S3136x64.Idx) :
    (flat (F := Ideal) z j : EReal) + ((takeArr (F := Ideal) n (argArr (distArr (F := Ideal) z n)) j : EReal) - flat (F := Ideal) z j)
        = qVal (F := Ideal) (row0 n) (flat (F := Ideal) z j)
      ∧ ((flat (F := Ideal) z j : EReal) - takeArr (F := Ideal) n (argArr (distArr (F := Ideal) z n)) j) * ((flat (F := Ideal) z j : EReal) - takeArr (F := Ideal) n (argArr (distArr (F := Ideal) z n)) j)
        = qErr (F := Ideal) (row0 n) (flat (F := Ideal) z j) := by
  obtain ⟨r, c, rfl⟩ : ∃ (r : Fin 3136) (c : Fin 64), j = ix2 r c := ⟨_, _, eq_ix2 j⟩
  obtain ⟨k, h, -, h', h''⟩ := one_bin z n hz hrow u hu hn r c
  have e : (takeArr (F := Ideal) n (argArr (F := Ideal) (distArr (F := Ideal) z n)) (ix2 r c) : EReal) = n (ix2 c k) :=
    FsqRef.takeArr_apply (F := Ideal) n _ (arg_range z n hz hrow u hu hn) r c k h
  exact ⟨(congrArg (fun q : EReal => (flat (F := Ideal) z (ix2 r c) : EReal) + (q - flat (F := Ideal) z (ix2 r c))) e).trans h'.symm,
    (congrArg (fun q : EReal => ((flat (F := Ideal) z (ix2 r c) : EReal) - q) * ((flat (F := Ideal) z (ix2 r c) : EReal) - q)) e).trans h''.symm⟩

end

/-! ## The three results, from what holds element by element -/

/-- Flattened and shaped back, the input is itself. -/
theorem flat_at (z : Vec Ideal S4x4x196x64 .f32) (i : S4x4x196x64.Idx) :
    flat (F := Ideal) z (Shape.reshapeEquiv Cert.ReferenceIdeal.Facts₀.shapeCasts_S3136x64_S4x4x196x64 i) = z i := by
  refine shapeCast_apply _ _ _ i ?_
  exact (Shape.rowMajor_reshapeEquiv _ i).symm

/-- A result of the tiles, read through the two exchanges of axes. -/
theorem unT_at (z : Vec Ideal S4x4x196x64 .f32) {e : EltTy} (f : Elt Ideal .f32 → Elt Ideal e) (i : S4x4x196x64.Idx) :
    unT (F := Ideal) (e := e) (fun q => f (zT (F := Ideal) z q)) i = f (z i) := by
  obtain ⟨a, b, y, c, rfl⟩ : ∃ a b y c, i = ix4 a b y c := ⟨_, _, _, _, eq_ix4 i⟩
  unfold unT
  rw [transpose_apply _ _ _ (ix4 a b y c) (ix4 a b c y) (fun k => by match k with | ⟨0, _⟩ => rfl | ⟨1, _⟩ => rfl | ⟨2, _⟩ => rfl | ⟨3, _⟩ => rfl)]
  refine congrArg f ?_
  exact transpose_apply _ _ _ (ix4 a b c y) (ix4 a b y c) fun k => by match k with | ⟨0, _⟩ => rfl | ⟨1, _⟩ => rfl | ⟨2, _⟩ => rfl | ⟨3, _⟩ => rfl

theorem ofBits_count : Ideal.ofBits .f32 0x48440000#32 = ((200704 : ℝ) : EReal) := by simp [Ideal.ofBits, Ideal.ieee, -EReal.coe_mul]; norm_num
theorem ofBits_unit : Ideal.ofBits .f32 0x3F800000#32 = (1 : EReal) := by
  have : Ideal.ofBits .f32 0x3F800000#32 = ((1 : ℝ) : EReal) := by simp [Ideal.ofBits, Ideal.ieee, -EReal.coe_mul]; norm_num
  exact this

section
variable (z : Vec Ideal S4x4x196x64 .f32) (n : Vec Ideal S64x256 .f32)
  (q : Vec Ideal Cert.ReferenceIdeal.S3136x64 .f32) (g : Vec Ideal Cert.ReferenceIdeal.S3136x64 .i32)

/-- The second result, for any array of chosen bins that agrees with the kernel's element by element. -/
theorem value_of (hq : ∀ j, (flat (F := Ideal) z j : EReal) + ((q j : EReal) - flat (F := Ideal) z j) = qVal (F := Ideal) (row0 n) (flat (F := Ideal) z j)) :
    outOf (F := Ideal) z q = valOut (F := Ideal) z n := by
  funext i
  have h := hq (Shape.reshapeEquiv Cert.ReferenceIdeal.Facts₀.shapeCasts_S3136x64_S4x4x196x64 i)
  rw [flat_at] at h
  exact h.trans (unT_at z (e := .f32) (fun v => qVal (F := Ideal) (row0 n) v) i).symm

/-- The third result, likewise. -/
theorem index_of (hg : ∀ j, g j = qIdx (F := Ideal) (row0 n) (flat (F := Ideal) z j)) :
    idxOf g = idxOut (F := Ideal) z n := by
  funext i
  have h := hg (Shape.reshapeEquiv Cert.ReferenceIdeal.Facts₀.shapeCasts_S3136x64_S4x4x196x64 i)
  rw [flat_at] at h
  exact h.trans (unT_at z (e := .i32) (fun v => qIdx (F := Ideal) (row0 n) v) i).symm

/-- The mean of the squared distances, as the reference takes it. -/
theorem mean_of (hq : ∀ j, ((flat (F := Ideal) z j : EReal) - q j) * ((flat (F := Ideal) z j : EReal) - q j) = qErr (F := Ideal) (row0 n) (flat (F := Ideal) z j))
    (j : Cert.ReferenceIdeal.S_.Idx) :
    (meanSq (F := Ideal) (flat z) q j : EReal)
      = (∑ i, (qErr (F := Ideal) (row0 n) (z i) : EReal)) * ((1 / 200704 : ℝ) : EReal) := by
  have e : ∑ j, (mulf (F := Ideal) (φ := .f32) (subf (flat z) q) (subf (flat z) q) j : EReal)
      = ∑ i, (qErr (F := Ideal) (row0 n) (z i) : EReal) := by
    rw [← Equiv.sum_comp (Shape.reshapeEquiv Cert.ReferenceIdeal.Facts₀.shapeCasts_S3136x64_S4x4x196x64)]
    refine Finset.sum_congr rfl fun i _ => ?_
    have h := hq (Shape.reshapeEquiv Cert.ReferenceIdeal.Facts₀.shapeCasts_S3136x64_S4x4x196x64 i)
    refine Eq.trans h ?_
    rw [flat_at]
  unfold meanSq
  show Ideal.div (Ideal.hostReduceAdd _ _ (Ideal.ofBits .f32 0x00000000#32) j) (Ideal.ofBits .f32 0x48440000#32) = _
  rw [Ideal.hostReduceAdd_total _ (fun b => b.elim0), ofBits_count, Ideal.div_coe (by norm_num), Ideal.ofBits_zero_f32, zero_add]
  exact congrArg (fun q : EReal => q * ((1 / 200704 : ℝ) : EReal)) e

/-- Twice a two-hundred-thousandth, for any total: finite or not. -/
theorem twice_share (s : EReal) : s * ((1 / 200704 : ℝ) : EReal) + s * ((1 / 200704 : ℝ) : EReal) = s * ((1 / 100352 : ℝ) : EReal) := by
  induction s with
  | bot => rw [EReal.bot_mul_coe_of_pos (by norm_num), EReal.bot_mul_coe_of_pos (by norm_num)]; rfl
  | top => rw [EReal.top_mul_coe_of_pos (by norm_num), EReal.top_mul_coe_of_pos (by norm_num)]; rfl
  | coe x => rw [← EReal.coe_mul, ← EReal.coe_mul, ← EReal.coe_add]; congr 1; ring

/-- The first result, likewise. -/
theorem loss_of (hq : ∀ j, ((flat (F := Ideal) z j : EReal) - q j) * ((flat (F := Ideal) z j : EReal) - q j) = qErr (F := Ideal) (row0 n) (flat (F := Ideal) z j)) :
    lossOf (F := Ideal) (flat z) q = lossOut (F := Ideal) z n := by
  funext j
  refine Eq.trans ?_ (lossOut_eq z n j).symm
  have h := mean_of z n q hq j
  show (meanSq (F := Ideal) (flat z) q j : EReal) + Ideal.ofBits .f32 0x3F800000#32 * meanSq (F := Ideal) (flat z) q j = _
  rw [h, ofBits_unit, one_mul]
  exact twice_share _
end

/-! ## The equation -/

section
variable (z : Vec Ideal S4x4x196x64 .f32) (n : Vec Ideal S64x256 .f32)
  (hz : ∀ i, (z i : EReal) < ⊤) (hrow : ∀ (c : Fin 64) (i : Fin 256), (n (ix2 c i) : EReal) = n (ix2 (0 : Fin 64) i))
  (u : Fin 256 → ℝ) (hu : OnGrid u) (hn : ∀ i : Fin 256, (n (ix2 (0 : Fin 64) i) : EReal) = (u i : EReal))
include hz hrow hu hn

theorem value_eq : outOf (F := Ideal) z (takeArr (F := Ideal) n (argArr (F := Ideal) (distArr (F := Ideal) z n))) = valOut (F := Ideal) z n :=
  value_of z n _ fun j => (take_eq z n hz hrow u hu hn j).1

theorem index_eq : idxOf (argArr (F := Ideal) (distArr (F := Ideal) z n)) = idxOut (F := Ideal) z n :=
  index_of z n _ (arg_eq z n hz hrow u hu hn)

theorem loss_eq : lossOf (F := Ideal) (flat z) (takeArr (F := Ideal) n (argArr (F := Ideal) (distArr (F := Ideal) z n))) = lossOut (F := Ideal) z n :=
  loss_of z n _ fun j => (take_eq z n hz hrow u hu hn j).2
end

end Cert.Proof.Fsq

end
-- ==== Proof.Algebraic.lean ====
/-
  The value claim: from memories with the same arguments, satisfying the precondition, both programs leave the same three
  results.
-/
module

public import proofs.«01_k».proof.Proof.Frames
public import proofs.«01_k».proof.Proof.Equation

@[expose] public section

noncomputable section

namespace Cert.Proof.Fsq

open Idealize.ShloMosaic Idealize.ShloMosaic.ValueIdx Idealize.SL.Sem
open Cert.KernelIdeal Cert.KernelIdeal.Gen
open Cert.Proof.FsqRef (flat distArr argArr takeArr lossOf outOf idxOf)

/-- The reference's arguments, as its launch finds them. -/
abbrev refZ (m' : (ℓ : Loc Cert.ReferenceIdeal.nD Cert.ReferenceIdeal.τ Cert.ReferenceIdeal.sig) → Buf (Elt Ideal) ℓ) (c : Dev Cert.ReferenceIdeal.nD) : Vec Ideal S4x4x196x64 .f32 :=
  m' ((c.tc : Thread Cert.ReferenceIdeal.nD Cert.ReferenceIdeal.τ).loc Cert.ReferenceIdeal.main_arg0)
abbrev refN (m' : (ℓ : Loc Cert.ReferenceIdeal.nD Cert.ReferenceIdeal.τ Cert.ReferenceIdeal.sig) → Buf (Elt Ideal) ℓ) (c : Dev Cert.ReferenceIdeal.nD) : Vec Ideal S64x256 .f32 :=
  m' ((c.tc : Thread Cert.ReferenceIdeal.nD Cert.ReferenceIdeal.τ).loc Cert.ReferenceIdeal.main_arg1)

/-- The reference's three results are the kernel's, wherever the precondition holds. -/
theorem results_eq [Cert.Pre_uniform_grid.Facts] (z : Vec Ideal S4x4x196x64 .f32) (n : Vec Ideal S64x256 .f32)
    (h : (Cert.Pre_uniform_grid.fn (F := Ideal) z n).1 = (fun _ => 1#1) ∧ (Cert.Pre_uniform_grid.fn (F := Ideal) z n).2.1 = (fun _ => 1#1)
      ∧ (Cert.Pre_uniform_grid.fn (F := Ideal) z n).2.2 = (fun _ => 1#1)) :
    lossOf (F := Ideal) (flat z) (takeArr (F := Ideal) n (argArr (F := Ideal) (distArr (F := Ideal) z n))) = lossOut (F := Ideal) z n
      ∧ outOf (F := Ideal) z (takeArr (F := Ideal) n (argArr (F := Ideal) (distArr (F := Ideal) z n))) = valOut (F := Ideal) z n
      ∧ idxOf (argArr (F := Ideal) (distArr (F := Ideal) z n)) = idxOut (F := Ideal) z n := by
  obtain ⟨u, hu, hn⟩ := pre_grid z n h.2.2
  have hz := pre_finite z n h.1
  have hrow := pre_rows z n h.2.1
  exact ⟨loss_eq z n hz hrow u hu hn, value_eq z n hz hrow u hu hn, index_eq z n hz hrow u hu hn⟩

theorem algebraic [Cert.Pre_uniform_grid.Facts] : Cert.algebraic_KernelIdeal_ReferenceIdeal_pre_uniform_grid := by
  intro m g m' g' hpre hargs
  refine ⟨fun c => lossOut (F := Ideal) (m (zLoc c)) (m (nLoc c)), fun c => valOut (F := Ideal) (m (zLoc c)) (m (nLoc c)),
    fun c => idxOut (F := Ideal) (m (zLoc c)) (m (nLoc c)), ?_, ?_⟩
  · refine (θ_run _ _ _).mono (fun r h c => ?_) (run_main (F := Ideal) m g)
    obtain ⟨hz, hn, hl, hv, hi⟩ := h.1 c
    exact ⟨hl, hv, hi, hz, hn⟩
  · refine (θ_run _ _ _).mono (fun r h c => ?_) (FsqRef.run_ref (F := Ideal) m' g')
    obtain ⟨el, ev, ei⟩ := results_eq (m (zLoc c)) (m (nLoc c)) (hpre c)
    have ez : refZ m' c = m (zLoc c) := (hargs c).1
    have en : refN m' c = m (nLoc c) := (hargs c).2
    refine ⟨((h.1 c _).trans (FsqRef.ops_loss _)).trans ?_, ((h.1 c _).trans (FsqRef.ops_val _)).trans ?_,
      ((h.1 c _).trans (FsqRef.ops_idx _)).trans ?_, (h.1 c _).trans (FsqRef.ops_arg0 _), (h.1 c _).trans (FsqRef.ops_arg1 _)⟩
    · show lossOf (F := Ideal) (flat (refZ m' c)) (takeArr (F := Ideal) (refN m' c) (argArr (F := Ideal) (distArr (F := Ideal) (refZ m' c) (refN m' c)))) = _
      rw [ez, en]; exact el
    · show outOf (F := Ideal) (refZ m' c) (takeArr (F := Ideal) (refN m' c) (argArr (F := Ideal) (distArr (F := Ideal) (refZ m' c) (refN m' c)))) = _
      rw [ez, en]; exact ev
    · show idxOf (argArr (F := Ideal) (distArr (F := Ideal) (refZ m' c) (refN m' c))) = _
      rw [ez, en]; exact ei

end Cert.Proof.Fsq

end
-- ==== Proof.lean ====
/-
  The certificate's claim, from its parts.
-/
module

public import proofs.«01_k».proof.Proof.Algebraic

@[expose] public section

noncomputable section

namespace Cert.Proof

open Cert.Proof.Fsq

theorem claim : Cert.Claim :=
  ⟨Cert.Kernel.Gen.facts, Cert.KernelIdeal.Gen.facts, Cert.ReferenceIdeal.Gen.facts, preFacts, frame_kernel, frame_kernelIdeal,
    @frame_kernelIdeal_pre preFacts, frame_reference, @frame_reference_pre preFacts, preserves, @algebraic preFacts⟩

end Cert.Proof

end
